-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_mask_and_scores_below_clamp [hPre_full_mask_and_scores_below_clamp : Cert.Pre_full_mask_and_scores_below_clamp.Facts] (m : (ℓ : Loc Cert.KernelIdeal.nD Cert.KernelIdeal.τ Cert.KernelIdeal.sig) → Buf (Elt Ideal) ℓ) : Prop :=
  ∀ c : Dev Cert.KernelIdeal.nD,
    (Cert.Pre_full_mask_and_scores_below_clamp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_full_mask_and_scores_below_clamp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_full_mask_and_scores_below_clamp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_mask_and_scores_below_clamp [hPre_full_mask_and_scores_below_clamp : Cert.Pre_full_mask_and_scores_below_clamp.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_mask_and_scores_below_clamp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_full_mask_and_scores_below_clamp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_full_mask_and_scores_below_clamp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_full_mask_and_scores_below_clamp [hKernelIdeal : Cert.KernelIdeal.Facts] [hPre_full_mask_and_scores_below_clamp : Cert.Pre_full_mask_and_scores_below_clamp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_mask_and_scores_below_clamp m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_full_mask_and_scores_below_clamp [hReferenceIdeal : Cert.ReferenceIdeal.Facts] [hPre_full_mask_and_scores_below_clamp : Cert.Pre_full_mask_and_scores_below_clamp.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_mask_and_scores_below_clamp m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_full_mask_and_scores_below_clamp [hKernelIdeal : Cert.KernelIdeal.Facts] [hReferenceIdeal : Cert.ReferenceIdeal.Facts] [hPre_full_mask_and_scores_below_clamp : Cert.Pre_full_mask_and_scores_below_clamp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_mask_and_scores_below_clamp m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_full_mask_and_scores_below_clamp : Cert.Pre_full_mask_and_scores_below_clamp.Facts),
    quiescent_Kernel (hKernel := hKernel)
    ∧ quiescent_KernelIdeal (hKernelIdeal := hKernelIdeal)
    ∧ quiescent_KernelIdeal_pre_full_mask_and_scores_below_clamp (hKernelIdeal := hKernelIdeal) (hPre_full_mask_and_scores_below_clamp := hPre_full_mask_and_scores_below_clamp)
    ∧ quiescent_ReferenceIdeal (hReferenceIdeal := hReferenceIdeal)
    ∧ quiescent_ReferenceIdeal_pre_full_mask_and_scores_below_clamp (hReferenceIdeal := hReferenceIdeal) (hPre_full_mask_and_scores_below_clamp := hPre_full_mask_and_scores_below_clamp)
    ∧ preserves_Kernel_KernelIdeal
    ∧ algebraic_KernelIdeal_ReferenceIdeal_pre_full_mask_and_scores_below_clamp (hKernelIdeal := hKernelIdeal) (hReferenceIdeal := hReferenceIdeal) (hPre_full_mask_and_scores_below_clamp := hPre_full_mask_and_scores_below_clamp)
-- ==== Pre_full_mask_and_scores_below_clamp.lean ====
abbrev S1x2048x2048 : Shape := ⟨3, ![1, 2048, 2048]⟩
abbrev S1x2048x128 : Shape := ⟨3, ![1, 2048, 128]⟩
abbrev S1x4x2048x2048 : Shape := ⟨4, ![1, 4, 2048, 2048]⟩
abbrev S_ : Shape := ⟨0, ![]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S1x1x2048 : Shape := ⟨3, ![1, 1, 2048]⟩
abbrev S1x2048x16x128 : Shape := ⟨4, ![1, 2048, 16, 128]⟩
abbrev S1x16x2048x128 : Shape := ⟨4, ![1, 16, 2048, 128]⟩
abbrev S2048x512 : Shape := ⟨2, ![2048, 512]⟩
abbrev S1x2048x512 : Shape := ⟨3, ![1, 2048, 512]⟩
abbrev S1x1x512 : Shape := ⟨3, ![1, 1, 512]⟩
abbrev S1x2048x4x128 : Shape := ⟨4, ![1, 2048, 4, 128]⟩
abbrev S1x4x2048x128 : Shape := ⟨4, ![1, 4, 2048, 128]⟩
abbrev S1x1x2048x128 : Shape := ⟨4, ![1, 1, 2048, 128]⟩
abbrev S1x16x2048x64 : Shape := ⟨4, ![1, 16, 2048, 64]⟩
abbrev S1x4x2048x64 : Shape := ⟨4, ![1, 4, 2048, 64]⟩
abbrev S1x4x4x2048x128 : Shape := ⟨5, ![1, 4, 4, 2048, 128]⟩
abbrev S1x16x2048x2048 : Shape := ⟨4, ![1, 16, 2048, 2048]⟩
abbrev S1x16x2048 : Shape := ⟨3, ![1, 16, 2048]⟩

class Facts : Prop where
  transposes_S2048x2048_S2048x2048_1_0 : S2048x2048.Transposes [1, 0] S2048x2048
  bcast_S2048_S1x1x2048_2 : S2048.BroadcastsInDim S1x1x2048 (![2] : Fin 1 → Fin S1x1x2048.rank)
  bcast_S1x1x2048_S1x2048x2048_0_1_2 : S1x1x2048.BroadcastsInDim S1x2048x2048 (![0, 1, 2] : Fin 3 → Fin S1x2048x2048.rank)
  shapeCasts_S1x2048x2048_S1x2048x16x128 : S1x2048x2048.ShapeCasts S1x2048x16x128
  transposes_S1x2048x16x128_S1x16x2048x128_0_2_1_3 : S1x2048x16x128.Transposes [0, 2, 1, 3] S1x16x2048x128
  transposes_S512x2048_S2048x512_1_0 : S512x2048.Transposes [1, 0] S2048x512
  bcast_S512_S1x1x512_2 : S512.BroadcastsInDim S1x1x512 (![2] : Fin 1 → Fin S1x1x512.rank)
  bcast_S1x1x512_S1x2048x512_0_1_2 : S1x1x512.BroadcastsInDim S1x2048x512 (![0, 1, 2] : Fin 3 → Fin S1x2048x512.rank)
  shapeCasts_S1x2048x512_S1x2048x4x128 : S1x2048x512.ShapeCasts S1x2048x4x128
  transposes_S1x2048x4x128_S1x4x2048x128_0_2_1_3 : S1x2048x4x128.Transposes [0, 2, 1, 3] S1x4x2048x128
  bcast_S1x2048x128_S1x1x2048x128_0_2_3 : S1x2048x128.BroadcastsInDim S1x1x2048x128 (![0, 2, 3] : Fin 3 → Fin S1x1x2048x128.rank)
  bcast_S1x1x2048x128_S1x16x2048x128_0_1_2_3 : S1x1x2048x128.BroadcastsInDim S1x16x2048x128 (![0, 1, 2, 3] : Fin 4 → Fin S1x16x2048x128.rank)
  slices_S1x16x2048x128_S1x16x2048x64_0_0_0_64 : S1x16x2048x128.Slices ![0, 0, 0, 64] S1x16x2048x64
  slices_S1x16x2048x128_S1x16x2048x64_0_0_0_0 : S1x16x2048x128.Slices ![0, 0, 0, 0] S1x16x2048x64
  concatenates_S1x16x2048x64_S1x16x2048x64_S1x16x2048x128_d3 : Shape.Concatenates [S1x16x2048x64, S1x16x2048x64] S1x16x2048x128 3
  bcast_S1x1x2048x128_S1x4x2048x128_0_1_2_3 : S1x1x2048x128.BroadcastsInDim S1x4x2048x128 (![0, 1, 2, 3] : Fin 4 → Fin S1x4x2048x128.rank)
  slices_S1x4x2048x128_S1x4x2048x64_0_0_0_64 : S1x4x2048x128.Slices ![0, 0, 0, 64] S1x4x2048x64
  slices_S1x4x2048x128_S1x4x2048x64_0_0_0_0 : S1x4x2048x128.Slices ![0, 0, 0, 0] S1x4x2048x64
  concatenates_S1x4x2048x64_S1x4x2048x64_S1x4x2048x128_d3 : Shape.Concatenates [S1x4x2048x64, S1x4x2048x64] S1x4x2048x128 3
  bcast_S1x4x2048x128_S1x4x4x2048x128_0_1_3_4 : S1x4x2048x128.BroadcastsInDim S1x4x4x2048x128 (![0, 1, 3, 4] : Fin 4 → Fin S1x4x4x2048x128.rank)
  shapeCasts_S1x4x4x2048x128_S1x16x2048x128 : S1x4x4x2048x128.ShapeCasts S1x16x2048x128
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  dot_S1x2048x2048_S2048x2048_S1x2048x2048_2_0_01_1_n_n_wf : DotDims.WF S1x2048x2048 S2048x2048 S1x2048x2048 [2] [0] [0, 1] [1] [] []
  dot_S1x2048x2048_S2048x512_S1x2048x512_2_0_01_1_n_n_wf : DotDims.WF S1x2048x2048 S2048x512 S1x2048x512 [2] [0] [0, 1] [1] [] []
  dot_S1x16x2048x128_S1x16x2048x128_S1x16x2048x2048_3_3_2_2_01_01_wf : DotDims.WF S1x16x2048x128 S1x16x2048x128 S1x16x2048x2048 [3] [3] [2] [2] [0, 1] [0, 1]

variable [Facts]

def dot_S1x2048x2048_S2048x2048_S1x2048x2048_2_0_01_1_n_n : DotDims S1x2048x2048 S2048x2048 S1x2048x2048 where
  lhsContracting := [2]
  rhsContracting := [0]
  lhsNonContracting := [0, 1]
  rhsNonContracting := [1]
  lhsBatch := []
  rhsBatch := []
  wf := dot_S1x2048x2048_S2048x2048_S1x2048x2048_2_0_01_1_n_n_wf
def dot_S1x2048x2048_S2048x512_S1x2048x512_2_0_01_1_n_n : DotDims S1x2048x2048 S2048x512 S1x2048x512 where
  lhsContracting := [2]
  rhsContracting := [0]
  lhsNonContracting := [0, 1]
  rhsNonContracting := [1]
  lhsBatch := []
  rhsBatch := []
  wf := dot_S1x2048x2048_S2048x512_S1x2048x512_2_0_01_1_n_n_wf
def dot_S1x16x2048x128_S1x16x2048x128_S1x16x2048x2048_3_3_2_2_01_01 : DotDims S1x16x2048x128 S1x16x2048x128 S1x16x2048x2048 where
  lhsContracting := [3]
  rhsContracting := [3]
  lhsNonContracting := [2]
  rhsNonContracting := [2]
  lhsBatch := [0, 1]
  rhsBatch := [0, 1]
  wf := dot_S1x16x2048x128_S1x16x2048x128_S1x16x2048x2048_3_3_2_2_01_01_wf
def fn_part2 {F : FTy → Type} [FloatOps F] (main_arg3 : IVec S1x4x2048x2048 1) (main_v39 : IVec S1x16x2048 1) (main_v41 : FVec F S1x16x2048 .f32) (main_v42 : FVec F S_ .f32) (main_cst_3 : FVec F S_ .f32) : IVec S1x4x2048x2048 1 × IVec S1x16x2048 1 × IVec S1x16x2048 1 :=
  let main_v43 : FVec F S_ .f32 := mulf main_cst_3 main_v42
  let main_v44 : FVec F S1x16x2048 .f32 := broadcastInDim S1x16x2048 ![] bcast_S_S1x16x2048 main_v43
  let main_v45 : IVec S1x16x2048 1 := cmpf .ole main_v41 main_v44
  (main_arg3, main_v39, main_v45)

def fn_part1 {F : FTy → Type} [FloatOps F] (main_arg3 : IVec S1x4x2048x2048 1) (main_v13 : FVec F S1x4x2048x128 .f32) (main_v14 : FVec F S1x1x2048x128 .f32) (main_v15 : FVec F S1x1x2048x128 .f32) (main_v17 : FVec F S1x16x2048x128 .f32) (main_v23 : FVec F S1x16x2048x128 .f32) : IVec S1x4x2048x2048 1 × IVec S1x16x2048 1 × IVec S1x16x2048 1 :=
  let main_v24 : FVec F S1x16x2048x128 .f32 := addf main_v17 main_v23
  let main_v25 : FVec F S1x4x2048x128 .f32 := broadcastInDim S1x4x2048x128 ![0, 1, 2, 3] bcast_S1x1x2048x128_S1x4x2048x128_0_1_2_3 main_v14
  let main_v26 : FVec F S1x4x2048x128 .f32 := mulf main_v13 main_v25
  let main_v27 : FVec F S1x4x2048x64 .f32 := (extractStridedSlice S1x4x2048x64 ![0, 0, 0, 64] · slices_S1x4x2048x128_S1x4x2048x64_0_0_0_64) main_v13
  let main_v28 : FVec F S1x4x2048x64 .f32 := Host.negf main_v27
  let main_v29 : FVec F S1x4x2048x64 .f32 := (extractStridedSlice S1x4x2048x64 ![0, 0, 0, 0] · slices_S1x4x2048x128_S1x4x2048x64_0_0_0_0) main_v13
  let main_v30 : FVec F S1x4x2048x128 .f32 := (fun a b => concatenate S1x4x2048x128 3 [⟨S1x4x2048x64, a⟩, ⟨S1x4x2048x64, b⟩] concatenates_S1x4x2048x64_S1x4x2048x64_S1x4x2048x128_d3) main_v28 main_v29
  let main_v31 : FVec F S1x4x2048x128 .f32 := broadcastInDim S1x4x2048x128 ![0, 1, 2, 3] bcast_S1x1x2048x128_S1x4x2048x128_0_1_2_3 main_v15
  let main_v32 : FVec F S1x4x2048x128 .f32 := mulf main_v30 main_v31
  let main_v33 : FVec F S1x4x2048x128 .f32 := addf main_v26 main_v32
  let main_v34 : FVec F S1x4x4x2048x128 .f32 := broadcastInDim S1x4x4x2048x128 ![0, 1, 3, 4] bcast_S1x4x2048x128_S1x4x4x2048x128_0_1_3_4 main_v33
  let main_v35 : FVec F S1x16x2048x128 .f32 := shapeCast S1x16x2048x128 main_v34 shapeCasts_S1x4x4x2048x128_S1x16x2048x128
  let main_v36 : FVec F S1x16x2048x2048 .f32 := (fun l r => Host.dotGeneral dot_S1x16x2048x128_S1x16x2048x128_S1x16x2048x2048_3_3_2_2_01_01 none l r) main_v24 main_v35
  let main_cst : FVec F S_ .f32 := constant S_ .f32 0xFF800000#32
  let main_v37 : FVec F S1x16x2048 .f32 := (fun x v => Host.reduce FloatOps.maximumf x v reducesTo_S1x16x2048x2048_S1x16x2048_d3 h_S_) main_v36 main_cst
  let main_cst_0 : FVec F S_ .f32 := constant S_ .f32 0xFF800000#32
  let main_v38 : FVec F S1x16x2048 .f32 := broadcastInDim S1x16x2048 ![] bcast_S_S1x16x2048 main_cst_0
  let main_v39 : IVec S1x16x2048 1 := cmpf .ogt main_v37 main_v38
  let main_cst_1 : FVec F S_ .f32 := constant S_ .f32 0x3DB504F3#32
  let main_v40 : FVec F S1x16x2048 .f32 := broadcastInDim S1x16x2048 ![] bcast_S_S1x16x2048 main_cst_1
  let main_v41 : FVec F S1x16x2048 .f32 := mulf main_v37 main_v40
  let main_cst_2 : FVec F S_ .f32 := constant S_ .f32 0x40000000#32
  let main_v42 : FVec F S_ .f32 := Host.log main_cst_2
  let main_cst_3 : FVec F S_ .f32 := constant S_ .f32 0x42F00000#32
  fn_part2 (F := F) main_arg3 main_v39 main_v41 main_v42 main_cst_3

def fn {F : FTy → Type} [FloatOps F] (main_arg0 : FVec F S1x2048x2048 .f32) (main_arg1 : FVec F S1x2048x128 .f32) (main_arg2 : FVec F S1x2048x128 .f32) (main_arg3 : IVec S1x4x2048x2048 1) (main_arg4 : IVec S_ 32) (main_arg5 : FVec F S2048x2048 .f32) (main_arg6 : FVec F S2048 .f32) (main_arg7 : FVec F S512x2048 .f32) (main_arg8 : FVec F S512 .f32) (main_arg9 : FVec F S512x2048 .f32) (main_arg10 : FVec F S512 .f32) (main_arg11 : FVec F S2048x2048 .f32) : IVec S1x4x2048x2048 1 × IVec S1x16x2048 1 × IVec S1x16x2048 1 :=
  let main_v0 : FVec F S2048x2048 .f32 := (transpose S2048x2048 [1, 0] · transposes_S2048x2048_S2048x2048_1_0) main_arg5
  let main_v1 : FVec F S1x2048x2048 .f32 := (fun l r => Host.dotGeneral dot_S1x2048x2048_S2048x2048_S1x2048x2048_2_0_01_1_n_n none l r) main_arg0 main_v0
  let main_v2 : FVec F S1x1x2048 .f32 := broadcastInDim S1x1x2048 ![2] bcast_S2048_S1x1x2048_2 main_arg6
  let main_v3 : FVec F S1x2048x2048 .f32 := broadcastInDim S1x2048x2048 ![0, 1, 2] bcast_S1x1x2048_S1x2048x2048_0_1_2 main_v2
  let main_v4 : FVec F S1x2048x2048 .f32 := addf main_v1 main_v3
  let main_v5 : FVec F S1x2048x16x128 .f32 := shapeCast S1x2048x16x128 main_v4 shapeCasts_S1x2048x2048_S1x2048x16x128
  let main_v6 : FVec F S1x16x2048x128 .f32 := (transpose S1x16x2048x128 [0, 2, 1, 3] · transposes_S1x2048x16x128_S1x16x2048x128_0_2_1_3) main_v5
  let main_v7 : FVec F S2048x512 .f32 := (transpose S2048x512 [1, 0] · transposes_S512x2048_S2048x512_1_0) main_arg7
  let main_v8 : FVec F S1x2048x512 .f32 := (fun l r => Host.dotGeneral dot_S1x2048x2048_S2048x512_S1x2048x512_2_0_01_1_n_n none l r) main_arg0 main_v7
  let main_v9 : FVec F S1x1x512 .f32 := broadcastInDim S1x1x512 ![2] bcast_S512_S1x1x512_2 main_arg8
  let main_v10 : FVec F S1x2048x512 .f32 := broadcastInDim S1x2048x512 ![0, 1, 2] bcast_S1x1x512_S1x2048x512_0_1_2 main_v9
  let main_v11 : FVec F S1x2048x512 .f32 := addf main_v8 main_v10
  let main_v12 : FVec F S1x2048x4x128 .f32 := shapeCast S1x2048x4x128 main_v11 shapeCasts_S1x2048x512_S1x2048x4x128
  let main_v13 : FVec F S1x4x2048x128 .f32 := (transpose S1x4x2048x128 [0, 2, 1, 3] · transposes_S1x2048x4x128_S1x4x2048x128_0_2_1_3) main_v12
  let main_v14 : FVec F S1x1x2048x128 .f32 := broadcastInDim S1x1x2048x128 ![0, 2, 3] bcast_S1x2048x128_S1x1x2048x128_0_2_3 main_arg1
  let main_v15 : FVec F S1x1x2048x128 .f32 := broadcastInDim S1x1x2048x128 ![0, 2, 3] bcast_S1x2048x128_S1x1x2048x128_0_2_3 main_arg2
  let main_v16 : FVec F S1x16x2048x128 .f32 := broadcastInDim S1x16x2048x128 ![0, 1, 2, 3] bcast_S1x1x2048x128_S1x16x2048x128_0_1_2_3 main_v14
  let main_v17 : FVec F S1x16x2048x128 .f32 := mulf main_v6 main_v16
  let main_v18 : FVec F S1x16x2048x64 .f32 := (extractStridedSlice S1x16x2048x64 ![0, 0, 0, 64] · slices_S1x16x2048x128_S1x16x2048x64_0_0_0_64) main_v6
  let main_v19 : FVec F S1x16x2048x64 .f32 := Host.negf main_v18
  let main_v20 : FVec F S1x16x2048x64 .f32 := (extractStridedSlice S1x16x2048x64 ![0, 0, 0, 0] · slices_S1x16x2048x128_S1x16x2048x64_0_0_0_0) main_v6
  let main_v21 : FVec F S1x16x2048x128 .f32 := (fun a b => concatenate S1x16x2048x128 3 [⟨S1x16x2048x64, a⟩, ⟨S1x16x2048x64, b⟩] concatenates_S1x16x2048x64_S1x16x2048x64_S1x16x2048x128_d3) main_v19 main_v20
  let main_v22 : FVec F S1x16x2048x128 .f32 := broadcastInDim S1x16x2048x128 ![0, 1, 2, 3] bcast_S1x1x2048x128_S1x16x2048x128_0_1_2_3 main_v15
  let main_v23 : FVec F S1x16x2048x128 .f32 := mulf main_v21 main_v22
  fn_part1 (F := F) main_arg3 main_v13 main_v14 main_v15 main_v17 main_v23
-- ==== Kernel.lean ====
abbrev S1x2048x2048 : Shape := ⟨3, ![1, 2048, 2048]⟩
abbrev S1x2048x128 : Shape := ⟨3, ![1, 2048, 128]⟩
abbrev S1x4x2048x2048 : Shape := ⟨4, ![1, 4, 2048, 2048]⟩
abbrev S_ : Shape := ⟨0, ![]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S2048x128 : Shape := ⟨2, ![2048, 128]⟩
abbrev S1024 : Shape := ⟨1, ![1024]⟩
abbrev S1x1024 : Shape := ⟨2, ![1, 1024]⟩
abbrev S2048x512 : Shape := ⟨2, ![2048, 512]⟩
abbrev S1x2048 : Shape := ⟨2, ![1, 2048]⟩
abbrev S512x128 : Shape := ⟨2, ![512, 128]⟩
abbrev S512x512 : Shape := ⟨2, ![512, 512]⟩
abbrev S1024x2048 : Shape := ⟨2, ![1024, 2048]⟩
abbrev S512x1024 : Shape := ⟨2, ![512, 1024]⟩
abbrev S512x64 : Shape := ⟨2, ![512, 64]⟩
abbrev S512x1 : Shape := ⟨2, ![512, 1]⟩

abbrev nBuf : Space → Nat
  | .hbm => 24
  | .vmem => 35
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S1x4x2048x2048, .i1⟩
  | .hbm, ⟨4, _⟩ => ⟨S_, .i32⟩
  | .hbm, ⟨5, _⟩ => ⟨S2048x2048, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S512x2048, .f32⟩
  | .hbm, ⟨10, _⟩ => ⟨S512, .f32⟩
  | .hbm, ⟨11, _⟩ => ⟨S2048x2048, .f32⟩
  | .hbm, ⟨12, _⟩ => ⟨S2048x2048, .f32⟩
  | .hbm, ⟨13, _⟩ => ⟨S2048x128, .f32⟩
  | .hbm, ⟨14, _⟩ => ⟨S2048x128, .f32⟩
  | .hbm, ⟨15, _⟩ => ⟨S1024, .f32⟩
  | .hbm, ⟨16, _⟩ => ⟨S1x1024, .f32⟩
  | .hbm, ⟨17, _⟩ => ⟨S2048x512, .bf16⟩
  | .hbm, ⟨18, _⟩ => ⟨S2048x512, .bf16⟩
  | .hbm, ⟨19, _⟩ => ⟨S2048x2048, .bf16⟩
  | .hbm, ⟨20, _⟩ => ⟨S2048x2048, .bf16⟩
  | .hbm, ⟨21, _⟩ => ⟨S1x2048, .f32⟩
  | .hbm, ⟨22, _⟩ => ⟨S2048x2048, .f32⟩
  | .hbm, ⟨23, _⟩ => ⟨S1x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S1024x2048, .bf16⟩
  | .local _ .vmem, ⟨22, _⟩ => ⟨S512x2048, .f32⟩
  | .local _ .vmem, ⟨23, _⟩ => ⟨S512x2048, .f32⟩
  | .local _ .vmem, ⟨24, _⟩ => ⟨S2048x2048, .bf16⟩
  | .local _ .vmem, ⟨25, _⟩ => ⟨S1x2048, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S2048x512, .bf16⟩
  | .local _ .vmem, ⟨31, _⟩ => ⟨S2048x512, .bf16⟩
  | .local _ .vmem, ⟨32, _⟩ => ⟨S2048x2048, .bf16⟩
  | .local _ .vmem, ⟨33, _⟩ => ⟨S512x2048, .f32⟩
  | .local _ .vmem, ⟨34, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_v2_0 : Ref sig .tc := ⟨.hbm, 17, rfl⟩
abbrev main_call0_v2_1 : Ref sig .tc := ⟨.hbm, 18, rfl⟩
abbrev main_call0_v2_2 : Ref sig .tc := ⟨.hbm, 19, rfl⟩
abbrev main_call0_v2_3 : Ref sig .tc := ⟨.hbm, 20, rfl⟩
abbrev main_call0_v3 : Ref sig .tc := ⟨.hbm, 21, rfl⟩
abbrev main_v3 : Ref sig .tc := ⟨.hbm, 22, rfl⟩
abbrev main_v4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg8_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S1x2048x2048 : Shape := ⟨3, ![1, 2048, 2048]⟩
abbrev S1x2048x128 : Shape := ⟨3, ![1, 2048, 128]⟩
abbrev S1x4x2048x2048 : Shape := ⟨4, ![1, 4, 2048, 2048]⟩
abbrev S_ : Shape := ⟨0, ![]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S1x1x2048 : Shape := ⟨3, ![1, 1, 2048]⟩
abbrev S1x2048x16x128 : Shape := ⟨4, ![1, 2048, 16, 128]⟩
abbrev S1x16x2048x128 : Shape := ⟨4, ![1, 16, 2048, 128]⟩
abbrev S2048x512 : Shape := ⟨2, ![2048, 512]⟩
abbrev S1x2048x512 : Shape := ⟨3, ![1, 2048, 512]⟩
abbrev S1x1x512 : Shape := ⟨3, ![1, 1, 512]⟩
abbrev S1x2048x4x128 : Shape := ⟨4, ![1, 2048, 4, 128]⟩
abbrev S1x4x2048x128 : Shape := ⟨4, ![1, 4, 2048, 128]⟩
abbrev S1x1x2048x128 : Shape := ⟨4, ![1, 1, 2048, 128]⟩
abbrev S1x16x2048x64 : Shape := ⟨4, ![1, 16, 2048, 64]⟩
abbrev S1x4x2048x64 : Shape := ⟨4, ![1, 4, 2048, 64]⟩
abbrev S1x4x4x2048x128 : Shape := ⟨5, ![1, 4, 4, 2048, 128]⟩
abbrev S1x4x4x2048x2048 : Shape := ⟨5, ![1, 4, 4, 2048, 2048]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S1x4x2048x2048, .i1⟩
  | .hbm, ⟨4, _⟩ => ⟨S_, .i32⟩
  | .hbm, ⟨5, _⟩ => ⟨S2048x2048, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S512x2048, .f32⟩
  | .hbm, ⟨10, _⟩ => ⟨S512, .f32⟩
  | .hbm, ⟨11, _⟩ => ⟨S2048x2048, .f32⟩
  | .hbm, ⟨12, _⟩ => ⟨S2048x2048, .f32⟩
  | .hbm, ⟨13, _⟩ => ⟨S1x2048x2048, .f32⟩
  | .hbm, ⟨14, _⟩ => ⟨S1x1x2048, .f32⟩
  | .hbm, ⟨15, _⟩ => ⟨S1x2048x2048, .f32⟩
  | .hbm, ⟨16, _⟩ => ⟨S1x2048x2048, .f32⟩
  | .hbm, ⟨17, _⟩ => ⟨S1x2048x16x128, .f32⟩
  | .hbm, ⟨18, _⟩ => ⟨S1x16x2048x128, .f32⟩
  | .hbm, ⟨19, _⟩ => ⟨S2048x512, .f32⟩
  | .hbm, ⟨20, _⟩ => ⟨S1x2048x512, .f32⟩
  | .hbm, ⟨21, _⟩ => ⟨S1x1x512, .f32⟩
  | .hbm, ⟨22, _⟩ => ⟨S1x2048x512, .f32⟩
  | .hbm, ⟨23, _⟩ => ⟨S1x2048x512, .f32⟩
  | .hbm, ⟨24, _⟩ => ⟨S1x2048x4x128, .f32⟩
  | .hbm, ⟨25, _⟩ => ⟨S1x4x2048x128, .f32⟩
  | .hbm, ⟨26, _⟩ => ⟨S2048x512, .f32⟩
  | .hbm, ⟨27, _⟩ => ⟨S1x2048x512, .f32⟩
  | .hbm, ⟨28, _⟩ => ⟨S1x1x512, .f32⟩
  | .hbm, ⟨29, _⟩ => ⟨S1x2048x512, .f32⟩
  | .hbm, ⟨30, _⟩ => ⟨S1x2048x512, .f32⟩
  | .hbm, ⟨31, _⟩ => ⟨S1x2048x4x128, .f32⟩
  | .hbm, ⟨32, _⟩ => ⟨S1x4x2048x128, .f32⟩
  | .hbm, ⟨33, _⟩ => ⟨S1x1x2048x128, .f32⟩
  | .hbm, ⟨34, _⟩ => ⟨S1x1x2048x128, .f32⟩
  | .hbm, ⟨35, _⟩ => ⟨S1x16x2048x128, .f32⟩
  | .hbm, ⟨36, _⟩ => ⟨S1x16x2048x128, .f32⟩
  | .hbm, ⟨37, _⟩ => ⟨S1x16x2048x64, .f32⟩
  | .hbm, ⟨38, _⟩ => ⟨S1x16x2048x64, .f32⟩
  | .hbm, ⟨39, _⟩ => ⟨S1x16x2048x64, .f32⟩
  | .hbm, ⟨40, _⟩ => ⟨S1x16x2048x128, .f32⟩
  | .hbm, ⟨41, _⟩ => ⟨S1x16x2048x128, .f32⟩
  | .hbm, ⟨42, _⟩ => ⟨S1x16x2048x128, .f32⟩
  | .hbm, ⟨43, _⟩ => ⟨S1x16x2048x128, .f32⟩
  | .hbm, ⟨44, _⟩ => ⟨S1x4x2048x128, .f32⟩
  | .hbm, ⟨45, _⟩ => ⟨S1x4x2048x128, .f32⟩
  | .hbm, ⟨46, _⟩ => ⟨S1x4x2048x64, .f32⟩
  | .hbm, ⟨47, _⟩ => ⟨S1x4x2048x64, .f32⟩
  | .hbm, ⟨48, _⟩ => ⟨S1x4x2048x64, .f32⟩
  | .hbm, ⟨49, _⟩ => ⟨S1x4x2048x128, .f32⟩
  | .hbm, ⟨50, _⟩ => ⟨S1x4x2048x128, .f32⟩
  | .hbm, ⟨51, _⟩ => ⟨S1x4x2048x128, .f32⟩
  | .hbm, ⟨52, _⟩ => ⟨S1x4x2048x128, .f32⟩
  | .hbm, ⟨53, _⟩ => ⟨S1x4x4x2048x128, .f32⟩
  | .hbm, ⟨54, _⟩ => ⟨S1x16x2048x128, .f32⟩
  | .hbm, ⟨55, _⟩ => ⟨S1x4x4x2048x128, .f32⟩
  | .hbm, ⟨56, _⟩ => ⟨S1x16x2048x128, .f32⟩
  | .hbm, ⟨57, _⟩ => ⟨S1x4x4x2048x2048, .i1⟩
  | .hbm, ⟨58, _⟩ => ⟨S1x16x2048x2048, .i1⟩
  | .hbm, ⟨59, _⟩ => ⟨S1x16x2048x2048, .f32⟩
  | .hbm, ⟨60, _⟩ => ⟨S_, .f32⟩
  | .hbm, ⟨61, _⟩ => ⟨S1x16x2048x2048, .f32⟩
  | .hbm, ⟨62, _⟩ => ⟨S1x16x2048x2048, .f32⟩
  | .hbm, ⟨63, _⟩ => ⟨S_, .f32⟩
  | .hbm, ⟨64, _⟩ => ⟨S1x16x2048x2048, .f32⟩
  | .hbm, ⟨65, _⟩ => ⟨S1x16x2048x2048, .f32⟩
  | .hbm, ⟨66, _⟩ => ⟨S_, .f32⟩
  | .hbm, ⟨67, _⟩ => ⟨S1x16x2048, .f32⟩
  | .hbm, ⟨68, _⟩ => ⟨S_, .f32⟩
  | .hbm, ⟨69, _⟩ => ⟨S1x16x2048, .f32⟩
  | .hbm, ⟨70, _⟩ => ⟨S1x16x2048, .f32⟩
  | .hbm, ⟨71, _⟩ => ⟨S1x16x2048x1, .f32⟩
  | .hbm, ⟨72, _⟩ => ⟨S1x16x2048x2048, .f32⟩
  | .hbm, ⟨73, _⟩ => ⟨S1x16x2048x2048, .f32⟩
  | .hbm, ⟨74, _⟩ => ⟨S1x16x2048x2048, .f32⟩
  | .hbm, ⟨75, _⟩ => ⟨S_, .f32⟩
  | .hbm, ⟨76, _⟩ => ⟨S1x16x2048, .f32⟩
  | .hbm, ⟨77, _⟩ => ⟨S1x16x2048x1, .f32⟩
  | .hbm, ⟨78, _⟩ => ⟨S1x16x2048x2048, .f32⟩
  | .hbm, ⟨79, _⟩ => ⟨S1x16x2048x2048, .f32⟩
  | .hbm, ⟨80, _⟩ => ⟨S1x16x2048x128, .f32⟩
  | .hbm, ⟨81, _⟩ => ⟨S1x2048x16x128, .f32⟩
  | .hbm, ⟨82, _⟩ => ⟨S1x2048x2048, .f32⟩
  | .hbm, ⟨83, _⟩ => ⟨S2048x2048, .f32⟩
  | .hbm, ⟨84, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst : Ref sig .tc := ⟨.hbm, 60, rfl⟩
abbrev main_v48 : Ref sig .tc := ⟨.hbm, 61, rfl⟩
abbrev main_v49 : Ref sig .tc := ⟨.hbm, 62, rfl⟩
abbrev main_cst_0 : Ref sig .tc := ⟨.hbm, 63, rfl⟩
abbrev main_call0_v0 : Ref sig .tc := ⟨.hbm, 64, rfl⟩
abbrev main_v50 : Ref sig .tc := ⟨.hbm, 65, rfl⟩
abbrev main_cst_1 : Ref sig .tc := ⟨.hbm, 66, rfl⟩
abbrev main_v51 : Ref sig .tc := ⟨.hbm, 67, rfl⟩
abbrev main_cst_2 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Proof.IdealRegion0.lean ====
/- # The first kernel: projections of keys and values

What one grid point of the first kernel leaves in its output blocks, and the triple of its body. The scratch buffer
holds the stacked weights of keys and values: the first grid point writes it, the others only read it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.StableHlo.RunHlo
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, whether it was fetched there or earlier. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rHid : Rect S512x2048 := Rect.unit (s := S512x2048) ![0, 0] S512x2048.size inb_S512x2048_S512x2048_0_0
abbrev rTop : Rect S1024x2048 := Rect.unit (s := S1024x2048) ![0, 0] S512x2048.size inb_S1024x2048_S512x2048_0_0
abbrev rBot : Rect S1024x2048 := Rect.unit (s := S1024x2048) ![512, 0] S512x2048.size inb_S1024x2048_S512x2048_512_0
abbrev rWkv : Rect S1024x2048 := Rect.unit (s := S1024x2048) ![0, 0] S1024x2048.size inb_S1024x2048_S1024x2048_0_0
abbrev rBias : Rect S1x1024 := Rect.unit (s := S1x1024) ![0, 0] S1x1024.size inb_S1x1024_S1x1024_0_0
abbrev rRot : Rect S512x128 := Rect.unit (s := S512x128) ![0, 0] S512x128.size inb_S512x128_S512x128_0_0
abbrev rOut : Rect S512x512 := Rect.unit (s := S512x512) ![0, 0] S512x512.size inb_S512x512_S512x512_0_0

/-! ## What the body leaves -/

/-- The scratch buffer after the first point: the key weights above, the value weights below. -/
def wkv (x1 : Vec F S512x2048 .f32) (x2 : Vec F S512x2048 .f32) : Vec F S1024x2048 .bf16 :=
  View.canon [⟨rBot, k0_pay6 (View.ld x2 rHid)⟩, ⟨rTop, k0_pay5 (View.ld x1 rHid)⟩]

/-- Its two stores cover it. -/
theorem cover_wkv (p0 p1 : Vec F S512x2048 .bf16) (y : S1024x2048.Idx) :
    ∃ pc ∈ ([⟨rBot, p1⟩, ⟨rTop, p0⟩] : List (View.Piece (Elt F) S1024x2048 .bf16)), y ∈ pc.1.set :=
  View.cover_of_tiled [⟨rBot, p1⟩, ⟨rTop, p0⟩] ![512, 2048] (by rfl) y

/-- The block of the keys' array, from the hidden rows `x0`, the scratch contents `w`, the bias `x3` and the rotation's
    cosines `x4` and sines `x5`. -/
def outK (x0 : Vec F S512x2048 .f32) (w : Vec F S1024x2048 .bf16) (x3 : Vec F S1x1024 .f32) (x4 x5 : Vec F S512x128 .f32) : Vec F S512x512 .bf16 :=
  View.canon [⟨rOut, k0_pay1 (k0_pay7 (View.ld x0 rHid) (View.ld w rWkv) (View.ld x3 rBias)) (k0_pay8 (View.ld x4 rRot)) (k0_pay9 (View.ld x5 rRot))
    (k0_pay10 (View.ld x0 rHid) (View.ld w rWkv) (View.ld x3 rBias) (View.ld x4 rRot) (View.ld x5 rRot))
    (k0_pay11 (View.ld x0 rHid) (View.ld w rWkv) (View.ld x3 rBias) (View.ld x4 rRot) (View.ld x5 rRot))
    (k0_pay12 (View.ld x0 rHid) (View.ld w rWkv) (View.ld x3 rBias)) (k0_pay13 (View.ld x0 rHid) (View.ld w rWkv) (View.ld x3 rBias))⟩]

/-- The block of the values' array. -/
def outV (x0 : Vec F S512x2048 .f32) (w : Vec F S1024x2048 .bf16) (x3 : Vec F S1x1024 .f32) : Vec F S512x512 .bf16 :=
  View.canon [⟨rOut, k0_pay2 (k0_pay7 (View.ld x0 rHid) (View.ld w rWkv) (View.ld x3 rBias))⟩]

/-- The block of the query weights' copy. -/
def outWq (x6 : Vec F S512x2048 .f32) : Vec F S512x2048 .bf16 := View.canon [⟨rHid, k0_pay3 (View.ld x6 rHid)⟩]

/-- The block of the output weights' copy. -/
def outWo (x7 : Vec F S512x2048 .f32) : Vec F S512x2048 .bf16 := View.canon [⟨rHid, k0_pay4 (View.ld x7 rHid)⟩]

/-- One store covers a block of the keys or of the values. -/
theorem cover_out (p0 : Vec F S512x512 .bf16) (y : S512x512.Idx) :
    ∃ pc ∈ ([⟨rOut, p0⟩] : List (View.Piece (Elt F) S512x512 .bf16)), y ∈ pc.1.set :=
  View.cover_of_tiled [⟨rOut, p0⟩] S512x512.size (by rfl) y

/-- One store covers a block of a weights' copy. -/
theorem cover_copy (p0 : Vec F S512x2048 .bf16) (y : S512x2048.Idx) :
    ∃ pc ∈ ([⟨rHid, p0⟩] : List (View.Piece (Elt F) S512x2048 .bf16)), y ∈ pc.1.set :=
  View.cover_of_tiled [⟨rHid, p0⟩] S512x2048.size (by rfl) y

/-- The number the body's test compares with one: one exactly at the first grid point. -/
abbrev firstBit (i : grid0.Coords) : BitVec 1 :=
  Scalar.cmpi .ne (Scalar.extui (Scalar.cmpi .eq (BitVec.ofNat 32 (i 0).val) 0#32) : BitVec 32) 0#32

/-! ## The body's triples -/

set_option maxHeartbeats 2000000 in
/-- The body at the first grid point: the scratch buffer may hold anything before and holds the stacked weights after. -/
theorem sound_first (c : Dev nD) (E : Set ℕ) (i : grid0.Coords) (hi : firstBit i = 1#1) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1024x2048 .bf16) (harg13 : arg13.IsWhole)
    (x0 : Vec F S512x2048 .f32) (x1 : Vec F S512x2048 .f32) (x2 : Vec F S512x2048 .f32) (x3 : Vec F S1x1024 .f32) (x4 : Vec F S512x128 .f32) (x5 : Vec F S512x128 .f32) (x6 : Vec F S512x2048 .f32) (x7 : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outK x0 (wkv x1 x2) x3 x4 x5) ∗ owns (c : Thread nD τ) arg10 fullShare (outV x0 (wkv x1 x2) x3) ∗ owns (c : Thread nD τ) arg11 fullShare (outWq x6) ∗ owns (c : Thread nD τ) arg12 fullShare (outWo x7) ∗ owns (c : Thread nD τ) arg13 fullShare (wkv x1 x2)) -∗ K ⟨⟩))
      ⊢ wp frame (wpE (defs₀ (F := F)) Variants.none c none) E (cc0__kv_kernel i arg1 harg1 arg2 harg2 arg3 harg3 arg4 harg4 arg5 harg5 arg6 harg6 arg7 harg7 arg8 harg8 arg9 harg9 arg10 harg10 arg11 harg11 arg12 harg12 arg13 harg13) K := by
  simp only [cc0__kv_kernel_eq_skeleton]; unfold cc0__kv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7
  simp only [dif_pos hi]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (View.read_writes_eq_canon _ _ _ (cover_out _)).trans (by unfold sound_first.sl.v6 sound_first.sl.H12_2; rw [View.readCov_eq_canon_ld _ _ _ (cover_wkv _ _)]; rfl)
  isplitl [H9]
  · iexists _; isplitr
    swap; · iexact H9
    ipureintro
    exact (View.read_writes_eq_canon _ _ _ (cover_out _)).trans (by unfold sound_first.sl.v6 sound_first.sl.H12_2; rw [View.readCov_eq_canon_ld _ _ _ (cover_wkv _ _)]; rfl)
  isplitl [H10]
  · iexists _; isplitr
    swap; · iexact H10
    ipureintro
    exact View.read_writes_eq_canon _ _ _ (cover_copy _)
  isplitl [H11]
  · iexists _; isplitr
    swap; · iexact H11
    ipureintro
    exact View.read_writes_eq_canon _ _ _ (cover_copy _)
  iexists _; isplitr
  swap; · iexact H12
  ipureintro
  exact View.read_writes_eq_canon _ _ _ (cover_wkv _ _)

set_option maxHeartbeats 2000000 in
/-- The body at a later grid point: the scratch buffer keeps what it holds. -/
theorem sound_later (c : Dev nD) (E : Set ℕ) (i : grid0.Coords) (hi : ¬ firstBit i = 1#1) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1024x2048 .bf16) (harg13 : arg13.IsWhole)
    (x0 : Vec F S512x2048 .f32) (x1 : Vec F S512x2048 .f32) (x2 : Vec F S512x2048 .f32) (x3 : Vec F S1x1024 .f32) (x4 : Vec F S512x128 .f32) (x5 : Vec F S512x128 .f32) (x6 : Vec F S512x2048 .f32) (x7 : Vec F S512x2048 .f32) (w : Vec F S1024x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare w
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outK x0 w x3 x4 x5) ∗ owns (c : Thread nD τ) arg10 fullShare (outV x0 w x3) ∗ owns (c : Thread nD τ) arg11 fullShare (outWq x6) ∗ owns (c : Thread nD τ) arg12 fullShare (outWo x7) ∗ owns (c : Thread nD τ) arg13 fullShare w) -∗ K ⟨⟩))
      ⊢ wp frame (wpE (defs₀ (F := F)) Variants.none c none) E (cc0__kv_kernel i arg1 harg1 arg2 harg2 arg3 harg3 arg4 harg4 arg5 harg5 arg6 harg6 arg7 harg7 arg8 harg8 arg9 harg9 arg10 harg10 arg11 harg11 arg12 harg12 arg13 harg13) K := by
  simp only [cc0__kv_kernel_eq_skeleton]; unfold cc0__kv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, Hk⟩
  subst hf0 hf1 hf2 hf3 hf4 hf5 hf6 hf7 hf12
  simp only [dif_neg hi]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_out _)
  isplitl [H9]
  · iexists _; isplitr
    swap; · iexact H9
    ipureintro
    exact View.read_writes_eq_canon _ _ _ (cover_out _)
  isplitl [H10]
  · iexists _; isplitr
    swap; · iexact H10
    ipureintro
    exact View.read_writes_eq_canon _ _ _ (cover_copy _)
  isplitl [H11]
  · iexists _; isplitr
    swap; · iexact H11
    ipureintro
    exact View.read_writes_eq_canon _ _ _ (cover_copy _)
  iexists _; isplitr
  swap; · iexact H12
  ipureintro
  rfl

/-! ## The launch's data -/

/-- The stacked weights the scratch buffer holds after the first grid point. -/
def wkvAt (c : Dev nD) : Vec F S1024x2048 .bf16 := wkv (iblk0 V c 1 t0_0) (iblk0 V c 2 t0_0)

/-- The scratch buffer before grid point `p`: at anything before the first, at the stacked weights later. -/
def scratchAt (c : Dev nD) (p : Fin (cfg0.N + 1)) : sProp 𝕄 :=
  if p.val = 0 then iprop(∃ f : Buf (Elt F) ((c : Thread nD τ).loc cc0_scratch0), ((c : Thread nD τ).loc cc0_scratch0) ↦{fullShare} f)
  else owns (c : Thread nD τ) (Memref.whole cc0_scratch0) fullShare (wkvAt V c)

theorem scratchAt_zero (c : Dev nD) (p : Fin (cfg0.N + 1)) (hp : p.val = 0) :
    scratchAt V c p = iprop(∃ d, owns (c : Thread nD τ) (Memref.whole cc0_scratch0) fullShare d) := by
  unfold scratchAt
  rw [if_pos hp]
  congr 1
  funext f
  exact (owns_whole (c : Thread nD τ) cc0_scratch0 fullShare f).symm

theorem scratchAt_pos (c : Dev nD) (p : Fin (cfg0.N + 1)) (hp : p.val ≠ 0) :
    scratchAt V c p = owns (c : Thread nD τ) (Memref.whole cc0_scratch0) fullShare (wkvAt V c) := by
  unfold scratchAt; rw [if_neg hp]

/-- The launch's data: the arrays as the kernel finds them; after the body each input buffer at its block and each
    output buffer at what the body leaves; between the points the scratch buffer, the rest of the core's own buffers and
    the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outK (iblk0 V c 0 t) (wkvAt V c) (iblk0 V c 3 t) (iblk0 V c 4 t) (iblk0 V c 5 t)
    | ⟨9, _⟩ => outV (iblk0 V c 0 t) (wkvAt V c) (iblk0 V c 3 t)
    | ⟨10, _⟩ => outWq (iblk0 V c 6 t)
    | ⟨11, _⟩ => outWo (iblk0 V c 7 t)
  Φ p := iprop((scratchAt V c p ∗ Pipeline.scopedRestBut spec0 c [cc0_scratch0]) ∗ ∃ r, prngReg c r)
  q _ := fullShare
  owed _ := 0

theorem A_eq0 (c : Dev nD) (w : Fin cfg0.W) : (dat0 V c).A w = V c (Pipeline.arrRef spec0 w) := by
  dsimp only [dat0]

theorem Φ_eq0 (c : Dev nD) (p : Fin (cfg0.N + 1)) : (dat0 V c).Φ p
    = iprop((scratchAt V c p ∗ Pipeline.scopedRestBut spec0 c [cc0_scratch0]) ∗ ∃ r, prngReg c r) := by
  dsimp only [dat0]

/-! What the body leaves, window by window. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = outK (iblk0 V c 0 t) (wkvAt V c) (iblk0 V c 3 t) (iblk0 V c 4 t) (iblk0 V c 5 t) := by dsimp only [dat0]
theorem after0_9 (c : Dev nD) (t : Fin cfg0.N) : (dat0 V c).after 9 t = outV (iblk0 V c 0 t) (wkvAt V c) (iblk0 V c 3 t) := by dsimp only [dat0]
theorem after0_10 (c : Dev nD) (t : Fin cfg0.N) : (dat0 V c).after 10 t = outWq (iblk0 V c 6 t) := by dsimp only [dat0]
theorem after0_11 (c : Dev nD) (t : Fin cfg0.N) : (dat0 V c).after 11 t = outWo (iblk0 V c 7 t) := by dsimp only [dat0]

/-! Each input window's staging buffer holds its block at every point. -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body at every point -/

/-- The test succeeds exactly at the first grid point. -/
theorem firstBit_iff : ∀ t : Fin cfg0.N, firstBit (cfg0.grid.coords t) = 1#1 ↔ t.val = 0 := by decide +kernel

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at the first point. -/
theorem sound_body_first (c : Dev nD) (t : Fin cfg0.N) (ht : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [Φ_eq0, Φ_eq0, scratchAt_zero V c t.castSucc (by simpa using ht), scratchAt_pos V c t.succ (by simp),
    show (dat0 V c).owesAt () t.succ = (dat0 V c).owesAt () t.castSucc from rfl,
    after0_0, after0_1, after0_2, after0_3, after0_4, after0_5, after0_6, after0_7, after0_8, after0_9, after0_10, after0_11]
  rw [show wkvAt V c = wkv (iblk0 V c 1 t) (iblk0 V c 2 t) by rw [show t = t0_0 from Fin.ext ht]; rfl]
  iintro ⟨⟨⟨Hs, Hr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_first c Set.univ (grid0.coords t) ((firstBit_iff t).2 ht) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [Hs]; · iexact Hs
  iintro ⟨H0, H1, H2, H3, H4, H5, H6, H7, H8, H9, H10, H11, Hs⟩
  isplitl [Hs Hr Hp]
  · isplitl [Hs Hr]
    · isplitl [Hs]; · iexact Hs
      iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at a later point. -/
theorem sound_body_later (c : Dev nD) (t : Fin cfg0.N) (ht : t.val ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [Φ_eq0, Φ_eq0, scratchAt_pos V c t.castSucc (by simpa using ht), scratchAt_pos V c t.succ (by simp),
    show (dat0 V c).owesAt () t.succ = (dat0 V c).owesAt () t.castSucc from rfl,
    after0_0, after0_1, after0_2, after0_3, after0_4, after0_5, after0_6, after0_7, after0_8, after0_9, after0_10, after0_11]
  iintro ⟨⟨⟨Hs, Hr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_later c Set.univ (grid0.coords t) (fun h => ht ((firstBit_iff t).1 h)) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (wkvAt V c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [Hs]; · iexact Hs
  iintro ⟨H0, H1, H2, H3, H4, H5, H6, H7, H8, H9, H10, H11, Hs⟩
  isplitl [Hs Hr Hp]
  · isplitl [Hs Hr]
    · isplitl [Hs]; · iexact Hs
      iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as the schedule spells it. -/
theorem defs₀_row0 (t : Fin cfg0.N) :
    defs₀ (F := F) .tc cfg0.body (cfg0.bodyArgs t (cfg0.slots t)) = bodyAt0 t := by
  unfold defs₀; rw [Defs.onTc_tc]

/-- The obligation of the launch, at every point. -/
theorem body_obligation0 (c : Dev nD) : BodyObligation (dat0 (F := F) V c) (defs₀ (F := F)) Variants.none () Set.univ := fun t => by
  rw [bigSep_W0, bigSep_W0, defs₀_row0]
  by_cases ht : t.val = 0
  · exact triple_restated (sound_body_first V c t ht) rfl .rfl fun _ => .rfl
  · exact triple_restated (sound_body_later V c t ht) rfl .rfl fun _ => .rfl

/-! ## The scratch buffer enters and leaves the launch -/

/-- The core's own buffers outside the windows are the scratch buffer and the rest. -/
theorem rest_split (c : Dev nD) : (Pipeline.scopedRest spec0 c : sProp 𝕄)
    = iprop(scratchAt V c 0 ∗ Pipeline.scopedRestBut spec0 c [cc0_scratch0]) := by
  rw [Pipeline.scopedRest_split_of_list spec0 c [cc0_scratch0] (by decide +kernel) (by decide)]
  rfl

/-- Whatever the scratch buffer holds, it holds something. -/
theorem scratchAt_forget (c : Dev nD) (p : Fin (cfg0.N + 1)) : scratchAt V c p ⊢ scratchAt V c 0 := by
  by_cases hp : p.val = 0
  · rw [show p = 0 from Fin.ext hp]
  · rw [scratchAt_pos V c p hp, scratchAt_zero V c 0 rfl]
    iintro H
    iexists _; iexact H

/-- After the last point the register and all the core's own buffers are given back. -/
theorem leave0 (c : Dev nD) : (iprop((scratchAt V c (Fin.last cfg0.N) ∗ Pipeline.scopedRestBut spec0 c [cc0_scratch0]) ∗ ∃ r, prngReg c r) : sProp 𝕄)
    ⊢ iprop((∃ r, prngReg c r) ∗ BI.emp ∗ Pipeline.scopedRest spec0 c) := by
  rw [rest_split V c]
  iintro ⟨⟨Hs, Hr⟩, Hp⟩
  isplitl [Hp]; · iexact Hp
  isplitr; · iempintro
  isplitl [Hs]
  · iapply (scratchAt_forget V c (Fin.last _)); iexact Hs
  iexact Hr

end Regions

end Cert.KernelIdeal.Run
-- ==== Proof.IdealRegion1.lean ====
/- # The second kernel: attention and the output projection

What one grid point of the second kernel leaves in its output block, the triple of its body, and the data of its
launch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S512x128 := Rect.unit (s := S512x128) ![0, 0] S512x128.size inb_S512x128_S512x128_0_0
abbrev r1_2 : Rect S2048x2048 := Rect.unit (s := S2048x2048) ![0, 0] S2048x2048.size inb_S2048x2048_S2048x2048_0_0
abbrev r1_3 : Rect S1x2048 := Rect.unit (s := S1x2048) ![0, 0] S1x2048.size inb_S1x2048_S1x2048_0_0
abbrev r1_4 : Rect S2048x512 := Rect.unit (s := S2048x512) ![0, 0] S2048x128.size inb_S2048x512_S2048x128_0_0
abbrev r1_5 : Rect S2048x512 := Rect.unit (s := S2048x512) ![0, 128] S2048x128.size inb_S2048x512_S2048x128_0_128
abbrev r1_6 : Rect S2048x512 := Rect.unit (s := S2048x512) ![0, 256] S2048x128.size inb_S2048x512_S2048x128_0_256
abbrev r1_7 : Rect S2048x512 := Rect.unit (s := S2048x512) ![0, 384] S2048x128.size inb_S2048x512_S2048x128_0_384

/-! ## What the body leaves in each output window's buffer -/

/-! ### Values of the body that the stores' payloads, spelt out, would write more than once

    Each is a vector the body binds (often a part call's result), stated over the input windows' blocks and
    numbered on from the skeleton's payload functions (`k1_pay44` …, after `k1_pay43`), so that
    `out1_W` and the values after it name it instead of spelling it out (`unfold_out out1_W` opens a canon
    with them, `unfold_payloads` opens them with the payloads); the comment after each is the printed function's
    name for the value (a count appended where that name is bound again). -/

def k1_pay44 (x0 : Vec F S512x2048 .f32) (x1 : Vec F S2048x2048 .bf16) (x2 : Vec F S1x2048 .f32) (x3 : Vec F S512x128 .f32) (x4 : Vec F S512x128 .f32) (x5 : Vec F S2048x512 .bf16) (x6 : Vec F S2048x512 .bf16) (x7 : Vec F S2048x2048 .bf16) : FVec F S512x128 .f32 :=
  k1_pay6 (View.ld x3 r1_1) -- `v4`
def k1_pay45 (x0 : Vec F S512x2048 .f32) (x1 : Vec F S2048x2048 .bf16) (x2 : Vec F S1x2048 .f32) (x3 : Vec F S512x128 .f32) (x4 : Vec F S512x128 .f32) (x5 : Vec F S2048x512 .bf16) (x6 : Vec F S2048x512 .bf16) (x7 : Vec F S2048x2048 .bf16) : FVec F S512x128 .f32 :=
  k1_pay7 (View.ld x4 r1_1) -- `v6`
def k1_pay46 (x0 : Vec F S512x2048 .f32) (x1 : Vec F S2048x2048 .bf16) (x2 : Vec F S1x2048 .f32) (x3 : Vec F S512x128 .f32) (x4 : Vec F S512x128 .f32) (x5 : Vec F S2048x512 .bf16) (x6 : Vec F S2048x512 .bf16) (x7 : Vec F S2048x2048 .bf16) : FVec F S512x2048 .f32 :=
  k1_pay8 (View.ld x0 r1_0) (View.ld x1 r1_2) (View.ld x2 r1_3) -- `v13`
def k1_pay47 (x0 : Vec F S512x2048 .f32) (x1 : Vec F S2048x2048 .bf16) (x2 : Vec F S1x2048 .f32) (x3 : Vec F S512x128 .f32) (x4 : Vec F S512x128 .f32) (x5 : Vec F S2048x512 .bf16) (x6 : Vec F S2048x512 .bf16) (x7 : Vec F S2048x2048 .bf16) : FVec F S512x2048 .f32 :=
  k1_pay1 (k1_pay42 (k1_pay44 x0 x1 x2 x3 x4 x5 x6 x7) (k1_pay45 x0 x1 x2 x3 x4 x5 x6 x7) (k1_pay46 x0 x1 x2 x3 x4 x5 x6 x7)) (k1_pay43 (View.ld x5 r1_7)) (constant S512x2048 .f32 0x00000000#32) -- `v436`

/-- Window 8's staging buffer after the body, from the input windows' blocks: its 1 store as pieces, LAST
    FIRST (Lib/Pipeline/FrameBody.lean `View.canon`; the payloads are the skeleton's and the values stated above). -/
def out1_8 (x0 : Vec F S512x2048 .f32) (x1 : Vec F S2048x2048 .bf16) (x2 : Vec F S1x2048 .f32) (x3 : Vec F S512x128 .f32) (x4 : Vec F S512x128 .f32) (x5 : Vec F S2048x512 .bf16) (x6 : Vec F S2048x512 .bf16) (x7 : Vec F S2048x2048 .bf16) : Vec F S512x2048 .f32 :=
  View.canon [⟨r1_0, k1_pay5 (k1_pay4 (k1_pay12 (k1_pay10 (View.ld x0 r1_0) (View.ld x3 r1_1) (View.ld x4 r1_1) (View.ld x1 r1_2) (View.ld x2 r1_3) (View.ld x5 r1_4)) (k1_pay11 (View.ld x0 r1_0) (View.ld x3 r1_1) (View.ld x4 r1_1) (View.ld x1 r1_2) (View.ld x2 r1_3) (View.ld x5 r1_4) (View.ld x6 r1_4))) (k1_pay13 (k1_pay44 x0 x1 x2 x3 x4 x5 x6 x7) (k1_pay45 x0 x1 x2 x3 x4 x5 x6 x7) (k1_pay46 x0 x1 x2 x3 x4 x5 x6 x7) (View.ld x5 r1_4) (View.ld x6 r1_4)) (k1_pay15 (k1_pay14 (k1_pay44 x0 x1 x2 x3 x4 x5 x6 x7) (k1_pay45 x0 x1 x2 x3 x4 x5 x6 x7) (k1_pay46 x0 x1 x2 x3 x4 x5 x6 x7) (View.ld x5 r1_4)) (View.ld x6 r1_4)) (k1_pay16 (k1_pay44 x0 x1 x2 x3 x4 x5 x6 x7) (k1_pay45 x0 x1 x2 x3 x4 x5 x6 x7) (k1_pay46 x0 x1 x2 x3 x4 x5 x6 x7) (View.ld x5 r1_4) (View.ld x6 r1_4)) (k1_pay20 (k1_pay44 x0 x1 x2 x3 x4 x5 x6 x7) (k1_pay45 x0 x1 x2 x3 x4 x5 x6 x7) (k1_pay17 (k1_pay46 x0 x1 x2 x3 x4 x5 x6 x7)) (k1_pay18 (k1_pay46 x0 x1 x2 x3 x4 x5 x6 x7)) (k1_pay19 (k1_pay46 x0 x1 x2 x3 x4 x5 x6 x7)) (View.ld x5 r1_5) (View.ld x6 r1_5)) (k1_pay24 (k1_pay22 (k1_pay44 x0 x1 x2 x3 x4 x5 x6 x7) (k1_pay45 x0 x1 x2 x3 x4 x5 x6 x7) (k1_pay46 x0 x1 x2 x3 x4 x5 x6 x7) (View.ld x5 r1_5)) (k1_pay23 (k1_pay44 x0 x1 x2 x3 x4 x5 x6 x7) (k1_pay45 x0 x1 x2 x3 x4 x5 x6 x7) (k1_pay46 x0 x1 x2 x3 x4 x5 x6 x7) (View.ld x5 r1_5)) (View.ld x6 r1_5)) (k1_pay25 (k1_pay44 x0 x1 x2 x3 x4 x5 x6 x7) (k1_pay45 x0 x1 x2 x3 x4 x5 x6 x7) (k1_pay46 x0 x1 x2 x3 x4 x5 x6 x7) (View.ld x5 r1_5) (View.ld x6 r1_5)) (k1_pay27 (k1_pay26 (k1_pay44 x0 x1 x2 x3 x4 x5 x6 x7) (k1_pay45 x0 x1 x2 x3 x4 x5 x6 x7) (k1_pay46 x0 x1 x2 x3 x4 x5 x6 x7)) (View.ld x5 r1_5) (View.ld x6 r1_5)) (k1_pay28 (k1_pay44 x0 x1 x2 x3 x4 x5 x6 x7) (k1_pay45 x0 x1 x2 x3 x4 x5 x6 x7) (k1_pay46 x0 x1 x2 x3 x4 x5 x6 x7) (View.ld x5 r1_6) (View.ld x6 r1_6)) (k1_pay30 (k1_pay44 x0 x1 x2 x3 x4 x5 x6 x7) (k1_pay45 x0 x1 x2 x3 x4 x5 x6 x7) (k1_pay29 (k1_pay46 x0 x1 x2 x3 x4 x5 x6 x7)) (View.ld x5 r1_6) (View.ld x6 r1_6)) (k1_pay32 (k1_pay31 (k1_pay44 x0 x1 x2 x3 x4 x5 x6 x7) (k1_pay45 x0 x1 x2 x3 x4 x5 x6 x7) (k1_pay46 x0 x1 x2 x3 x4 x5 x6 x7) (View.ld x5 r1_6)) (View.ld x6 r1_6)) (k1_pay33 (k1_pay44 x0 x1 x2 x3 x4 x5 x6 x7) (k1_pay45 x0 x1 x2 x3 x4 x5 x6 x7) (k1_pay46 x0 x1 x2 x3 x4 x5 x6 x7) (View.ld x5 r1_6) (View.ld x6 r1_6)) (k1_pay35 (k1_pay34 (k1_pay44 x0 x1 x2 x3 x4 x5 x6 x7) (k1_pay45 x0 x1 x2 x3 x4 x5 x6 x7) (k1_pay46 x0 x1 x2 x3 x4 x5 x6 x7)) (View.ld x5 r1_7) (View.ld x6 r1_7)) (k1_pay40 (k1_pay37 (k1_pay44 x0 x1 x2 x3 x4 x5 x6 x7) (k1_pay45 x0 x1 x2 x3 x4 x5 x6 x7) (k1_pay46 x0 x1 x2 x3 x4 x5 x6 x7) (View.ld x5 r1_7)) (k1_pay38 (k1_pay44 x0 x1 x2 x3 x4 x5 x6 x7) (k1_pay45 x0 x1 x2 x3 x4 x5 x6 x7) (k1_pay46 x0 x1 x2 x3 x4 x5 x6 x7) (View.ld x5 r1_7)) (k1_pay39 (View.ld x6 r1_7)) (constant S512x128 .f32 0x00000000#32)) (k1_pay41 (k1_pay44 x0 x1 x2 x3 x4 x5 x6 x7) (k1_pay45 x0 x1 x2 x3 x4 x5 x6 x7) (k1_pay46 x0 x1 x2 x3 x4 x5 x6 x7) (View.ld x5 r1_7) (View.ld x6 r1_7)) (k1_pay3 (k1_pay47 x0 x1 x2 x3 x4 x5 x6 x7) (k1_pay2 (k1_pay47 x0 x1 x2 x3 x4 x5 x6 x7) (View.ld x6 r1_7)))) (View.ld x7 r1_2)⟩]

/-- Its stores tile the buffer (checked by evaluation), so they cover it. -/
theorem cover1_8 (p0 : Vec F S512x2048 .f32) (y : S512x2048.Idx) :
    ∃ pc ∈ ([⟨r1_0, p0⟩] : List (View.Piece (Elt F) S512x2048 .f32)), y ∈ pc.1.set :=
  View.cover_of_tiled [⟨r1_0, p0⟩] S512x2048.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x2048 .bf16) (harg8 : arg8.IsWhole) (arg9 : Memref sig .tc .vmem S512x2048 .f32) (harg9 : arg9.IsWhole)
    (x0 : Vec F S512x2048 .f32) (x1 : Vec F S2048x2048 .bf16) (x2 : Vec F S1x2048 .f32) (x3 : Vec F S512x128 .f32) (x4 : Vec F S512x128 .f32) (x5 : Vec F S2048x512 .bf16) (x6 : Vec F S2048x512 .bf16) (x7 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__attn_kernel i arg1 harg1 arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (cover1_8 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run
-- ==== Proof.IdealRun.lean ====
/- # The whole program, from the launch to the return

The contents of every array are followed through the host operations and the two kernels, and the program's run is
assembled from its pieces: the result array ends at the followed contents and the arguments end as they were. -/
module

public import proofs.«01_k».proof.Proof.IdealRegion0
public import proofs.«01_k».proof.Proof.IdealRegion1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.StableHlo.RunHlo
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1` (region 0's entry). -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- A reference that is none of region 0's OUTPUT arrays keeps its entry contents across it: an input window's
    array is never written back (`Dat.arrAt_in`, `A_eq0`); any other buffer is left as is. -/
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn0 a ha)).trans (W2_args m ρ c a ha)
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After `hostOps1` (region 1's entry). -/
abbrev W4 : Dev nD → Valuation τ sig (Elt F) := fun c => StableHlo.after hostOps1 (W3 m ρ c)
/-- A reference `hostOps1` does not write keeps its contents across it. -/
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h
theorem W4_args (c : Dev nD) : ∀ a ∈ argRefs, W4 m ρ c (Proc.devRef .tc a) = m ((c : Thread nD τ).loc a) :=
  fun a ha => (W4_of m ρ c a (hostOps1_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V2 m ρ) c).Φ 0 from rfl, Φ_eq0, ← rest_split]
    iintro ⟨Hp, -, Hr⟩
    isplitl [Hr]; · iexact Hr
    iexact Hp
  hout c := by
    rw [Pipeline.ownSems0_none, show (pdats m ρ 0 c).Φ (Fin.last _) = (dat0 (V2 m ρ) c).Φ (Fin.last _) from rfl, Φ_eq0]
    exact leave0 (V2 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole program: from any memory with zero counters every fair execution ends, with the result array at what the
    contents followed through the program give, every argument as launched, and every counter at zero. -/
theorem run : θ_run defs (onTc (τ := τ) (main (F := F))) ⟨m, fun _ => 0, ρ⟩ (fun r => (∀ c : Dev nD,
      r.2.mem ((c.tc : Thread nD τ).loc main_v4) = W6 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v4 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩), funext fun g => hz g (.inr (no_unscoped g.2))⟩)

/-- The same without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)  :=
  θ_run_mono (run m ρ) fun _ h => ⟨fun c => (h.1 c).2, h.2⟩

end Cert.KernelIdeal.Run
-- ==== Proof.RefRead.lean ====
/- # What the reference computes, stage by stage -/
module

public import proofs.«01_k».proof.Proof.Gen.ReferenceIdeal.Run
public import proofs.«01_k».proof.Proof.Gen.ReferenceIdeal.Read
-- ==== Proof.Heads.lean ====
/- # The attention kernel's body as sixteen equal heads

The printed body of the second kernel writes its sixteen heads out one after the other. Here one head is a function of
its 128 query columns and of its key and value columns, and the body's result is shown to be the output projection of
the sixteen heads side by side. -/
module

public import proofs.«01_k».proof.Proof.IdealRegion1

@[expose] public section

set_option maxRecDepth 16384

noncomputable section

namespace Cert.KernelIdeal.Heads

open Cert.KernelIdeal Cert.KernelIdeal.Gen Cert.KernelIdeal.Run
open Idealize.ShloMosaic Idealize.SL.Sem

variable {F : FTy → Type} [FloatOps F] [Named F]

/-- The rotary embedding of 128 columns: `x * cos + (-hi, lo) * sin`, with `lo` and `hi` the halves of `x`. -/
def rope (x c s : FVec F S512x128 .f32) : FVec F S512x128 .f32 :=
  addf (mulf x c)
    (mulf (concatenate S512x128 1
      [⟨S512x64, subf (broadcast S512x64 (Scalar.ofBits .f32 0x00000000#32))
          (extractStridedSlice S512x64 ![0, 64] x slices_S512x128_o0_64_S512x64)⟩,
       ⟨S512x64, extractStridedSlice S512x64 ![0, 0] x slices_S512x128_o0_0_S512x64⟩]
      concatenates_S512x64_S512x64_S512x128_d1) s)

/-- The weights of one head before normalisation: `2 ^ min (q · k, 120)`, the rotated queries scaled beforehand. -/
def weights (x c s : FVec F S512x128 .f32) (k : Vec F S2048x128 .bf16) : FVec F S512x2048 .f32 :=
  exp2 (minimumf
    (matmul dot_S512x128_S2048x128_S512x2048_1_1_0_0_n_n none
      (truncf .bf16 (mulf (rope x c s) (broadcast S512x128 (Named.named κ "scale_log2e" 0x3E0293EE#32))) bitsLt_bf16_f32)
      (shapeCast S2048x128 k shapeCasts_S2048x128_S2048x128 : FVec F S2048x128 .bf16)
      (constant S512x2048 .f32 0x00000000#32))
    (broadcast S512x2048 (Scalar.ofBits .f32 0x42F00000#32)))

/-- One head: the weighted sum of the values, divided by the row's total weight. -/
def head (x c s : FVec F S512x128 .f32) (k v : Vec F S2048x128 .bf16) : FVec F S512x128 .bf16 :=
  truncf .bf16 (divf
    (matmul dot_S512x2048_S2048x128_S512x128_1_0_0_1_n_n none
      (truncf .bf16 (weights x c s k) bitsLt_bf16_f32)
      (shapeCast S2048x128 v shapeCasts_S2048x128_S2048x128 : FVec F S2048x128 .bf16)
      (constant S512x128 .f32 0x00000000#32))
    (broadcastTo S512x128
      (shapeCast S512x1 (multiReduction .add [1] S512 (weights x c s k) 0x00000000#32 reduces_S512x2048_S512 (.inl rfl) rfl)
        shapeCasts_S512_S512x1)
      broadcasts_S512x1_S512x128)) bitsLt_bf16_f32

theorem slicesHead (n : Fin 16) : S512x2048.Slices ![0, 128 * n.val] S512x128 := by
  revert n; decide

theorem inbGroup (g : Fin 4) : ∀ a, (![0, 128 * g.val] : Fin 2 → Nat) a + S2048x128.size a ≤ S2048x512.size a := by
  revert g; decide

/-- The key (or value) columns of group `g`. -/
abbrev group (g : Fin 4) : Rect S2048x512 := Rect.unit (s := S2048x512) ![0, 128 * g.val] S2048x128.size (inbGroup g)

/-- The group of query head `n`: four heads share their keys and values. -/
def grp (n : Fin 16) : Fin 4 := ⟨n.val / 4, by omega⟩

/-- Query head `n` of the projected queries `xa`. -/
def headAt (c s : FVec F S512x128 .f32) (xa : FVec F S512x2048 .f32) (k v : Vec F S2048x512 .bf16) (n : Fin 16) :
    FVec F S512x128 .bf16 :=
  head (extractStridedSlice S512x128 ![0, 128 * n.val] xa (slicesHead n)) c s (View.ld k (group (grp n))) (View.ld v (group (grp n)))

/-- The sixteen heads side by side. -/
def heads (c s : FVec F S512x128 .f32) (xa : FVec F S512x2048 .f32) (k v : Vec F S2048x512 .bf16) : FVec F S512x2048 .bf16 :=
  concatenate S512x2048 1 (List.ofFn fun n : Fin 16 => (⟨S512x128, headAt c s xa k v n⟩ : (s : Shape) × (s.Idx → F .bf16)))
    concatenates_S512x128_S512x128_S512x128_S512x128_S512x128_S512x128_S512x128_S512x128_S512x128_S512x128_S512x128_S512x128_S512x128_S512x128_S512x128_S512x128_S512x2048_d1

set_option maxHeartbeats 4000000 in
/-- The body's result block is the output projection of the sixteen heads. -/
theorem out_eq (x0 : Vec F S512x2048 .f32) (x1 : Vec F S2048x2048 .bf16) (x2 : Vec F S1x2048 .f32) (x3 : Vec F S512x128 .f32)
    (x4 : Vec F S512x128 .f32) (x5 : Vec F S2048x512 .bf16) (x6 : Vec F S2048x512 .bf16) (x7 : Vec F S2048x2048 .bf16) :
    out1_8 x0 x1 x2 x3 x4 x5 x6 x7 =
      View.canon [⟨r1_0, k1_pay5 (heads (k1_pay6 (View.ld x3 r1_1)) (k1_pay7 (View.ld x4 r1_1))
        (k1_pay8 (View.ld x0 r1_0) (View.ld x1 r1_2) (View.ld x2 r1_3)) x5 x6) (View.ld x7 r1_2)⟩] := rfl

end Cert.KernelIdeal.Heads
-- ==== Proof.Model.lean ====
/- # Grouped-query attention over the extended reals

The mathematics both programs compute, on functions of plain indices: positions `i j < 2048`, query heads `n < 16`,
key/value heads `g < 4`, head columns `d < 128`. -/
module

public import Idealize.ShloMosaic.PureOps.Ideal

@[expose] public section

noncomputable section

namespace Cert.Model

open Idealize.ShloMosaic

/-- The arguments that the result depends on, each a function of its indices. -/
structure Args where
  hid : Fin 2048 → Fin 2048 → EReal
  cos : Fin 2048 → Fin 128 → EReal
  sin : Fin 2048 → Fin 128 → EReal
  wq : Fin 2048 → Fin 2048 → EReal
  bq : Fin 2048 → EReal
  wk : Fin 512 → Fin 2048 → EReal
  bk : Fin 512 → EReal
  wv : Fin 512 → Fin 2048 → EReal
  bv : Fin 512 → EReal
  wo : Fin 2048 → Fin 2048 → EReal

/-- Column `d` of query head `n`. -/
def qcol (n : Fin 16) (d : Fin 128) : Fin 2048 := ⟨128 * n.val + d.val, by omega⟩
/-- Column `d` of key/value head `g`. -/
def kcol (g : Fin 4) (d : Fin 128) : Fin 512 := ⟨128 * g.val + d.val, by omega⟩
/-- The query head of a column. -/
def qhead (m : Fin 2048) : Fin 16 := ⟨m.val / 128, by omega⟩
/-- The key/value head of a column. -/
def khead (m : Fin 512) : Fin 4 := ⟨m.val / 128, by omega⟩
/-- A column's place in its query head. -/
def qlane (m : Fin 2048) : Fin 128 := ⟨m.val % 128, by omega⟩
/-- A column's place in its key/value head. -/
def klane (m : Fin 512) : Fin 128 := ⟨m.val % 128, by omega⟩
/-- The key/value head that query head `n` attends with. -/
def grp (n : Fin 16) : Fin 4 := ⟨n.val / 4, by omega⟩

/-- One element of a linear layer. -/
def lin (x w : Fin 2048 → EReal) (b : EReal) : EReal := (∑ e, x e * w e) + b

/-- The rotary embedding of one row: `x * cos + (-hi, lo) * sin`, with `lo` and `hi` the halves of `x`. -/
def rot (x c s : Fin 128 → EReal) (d : Fin 128) : EReal :=
  x d * c d + (if h : d.val < 64 then -(x ⟨64 + d.val, by omega⟩) else x ⟨d.val - 64, by omega⟩) * s d

/-- The rotated query. -/
def qh (A : Args) (i : Fin 2048) (n : Fin 16) (d : Fin 128) : EReal :=
  rot (fun d => lin (A.hid i) (A.wq (qcol n d)) (A.bq (qcol n d))) (A.cos i) (A.sin i) d

/-- The rotated key. -/
def kh (A : Args) (j : Fin 2048) (g : Fin 4) (d : Fin 128) : EReal :=
  rot (fun d => lin (A.hid j) (A.wk (kcol g d)) (A.bk (kcol g d))) (A.cos j) (A.sin j) d

/-- The value. -/
def vh (A : Args) (j : Fin 2048) (g : Fin 4) (d : Fin 128) : EReal :=
  lin (A.hid j) (A.wv (kcol g d)) (A.bv (kcol g d))

/-- The attention score before scaling. -/
def score (A : Args) (i : Fin 2048) (n : Fin 16) (j : Fin 2048) : EReal := ∑ d, qh A i n d * kh A j (grp n) d

/-- The attention weight as the kernel computes it: base two, the queries scaled by `a` beforehand, the score cut at `b`. -/
def kweight (a b : EReal) (q : Fin 128 → EReal) (k : Fin 128 → EReal) : EReal :=
  Ideal.exp2 (min (∑ d, q d * a * k d) b)

/-- One element of a head as the kernel computes it: normalised after the sum over the positions. -/
def khead_out (p v : Fin 2048 → EReal) : EReal := Ideal.div (∑ j, p j * v j) (∑ j, p j)

/-- The kernel's heads. -/
def kattn (a b : EReal) (A : Args) (i : Fin 2048) (n : Fin 16) (d : Fin 128) : EReal :=
  khead_out (fun j => kweight a b (qh A i n) (kh A j (grp n))) (fun j => vh A j (grp n) d)

/-- The kernel's result. -/
def kout (a b : EReal) (A : Args) (i o : Fin 2048) : EReal :=
  ∑ m, kattn a b A i (qhead m) (qlane m) * A.wo o m

/-- The largest of a row of scores. -/
def top (f : Fin 2048 → EReal) : EReal := Finset.univ.fold max ⊥ f

/-- One element of a head as the reference computes it: the softmax of the scaled scores, then the sum. -/
def rhead_out (s v : Fin 2048 → EReal) : EReal :=
  ∑ j, Ideal.div (Ideal.exp (s j - top s)) (∑ j', Ideal.exp (s j' - top s)) * v j

/-- The reference's heads. -/
def rattn (a : EReal) (A : Args) (i : Fin 2048) (n : Fin 16) (d : Fin 128) : EReal :=
  rhead_out (fun j => score A i n j * a) (fun j => vh A j (grp n) d)

/-- The reference's result. -/
def rout (a : EReal) (A : Args) (i o : Fin 2048) : EReal :=
  ∑ m, rattn a A i (qhead m) (qlane m) * A.wo o m

end Cert.Model
-- ==== Proof.Literals.lean ====
/- # The numbers the programs' float words hold -/
module

public import Idealize.ShloMosaic.PureOps.Ideal

@[expose] public section

noncomputable section

namespace Cert.Model

open Idealize.ShloMosaic

/-- The scale of the scores: the single-precision number nearest `1 / √128`. -/
def scale : ℝ := 11863283 / 134217728

theorem scale_pos : 0 < scale := by unfold scale; norm_num

theorem word_scale : Ideal.ofBits .f32 0x3DB504F3#32 = (scale : EReal) := by
  unfold scale
  simp [Ideal.ofBits, Ideal.ieee, -EReal.coe_mul]; norm_num

theorem word_bound : Ideal.ofBits .f32 0x42F00000#32 = ((120 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_bot : Ideal.ofBits .f32 0xFF800000#32 = ⊥ := by
  simp [Ideal.ofBits, Ideal.ieee]

end Cert.Model
-- ==== Proof.AttendBlock.lean ====
/- # One block of the attention kernel, element by element

What the second kernel's body leaves at row `r`, column `o` of its output block: the sum over the heads' columns of the
head's element times the output weight. -/
module

public import proofs.«01_k».proof.Proof.Heads
public import proofs.«01_k».proof.Proof.Model
public import proofs.«01_k».proof.Proof.Literals
public import Idealize.ShloMosaic.Lib.Pointwise
public import Idealize.ShloMosaic.Lib.Pipeline.ValueKit

@[expose] public section

set_option maxRecDepth 16384

noncomputable section

namespace Cert.KernelIdeal.Heads

open Cert.KernelIdeal Cert.KernelIdeal.Gen Cert.KernelIdeal.Run Cert.Model
open Idealize.ShloMosaic Idealize.SL.Sem

/-- The constant that scales the queries. -/
def kscale : EReal := ((scale * (Real.log 2)⁻¹ : ℝ) : EReal)

theorem named_kscale : Named.named (F := Ideal) (φ := .f32) κ "scale_log2e" 0x3E0293EE#32 = kscale := rfl

/-- The bound that cuts the scores. -/
def kbound : EReal := ((120 : ℝ) : EReal)

/-- The rotary embedding of a row. -/
theorem rope_apply (x c s : FVec Ideal S512x128 .f32) (r : Fin 512) (d : Fin 128) :
    rope x c s (ix2 r d) = rot (fun d => x (ix2 r d)) (fun d => c (ix2 r d)) (fun d => s (ix2 r d)) d := by
  pointwise [rope]
  simp only [rot, zero_sub]

/-- A weight before normalisation. -/
theorem weights_apply (x c s : FVec Ideal S512x128 .f32) (k : Vec Ideal S2048x128 .bf16) (r : Fin 512) (j : Fin 2048) :
    weights x c s k (ix2 r j)
      = kweight kscale kbound (fun d => rot (fun d => x (ix2 r d)) (fun d => c (ix2 r d)) (fun d => s (ix2 r d)) d)
        (fun d => k (ix2 j d)) := by
  pointwise [weights]
  simp only [rope_apply, named_kscale, word_bound]
  rfl

/-- A head's element. -/
theorem head_apply (x c s : FVec Ideal S512x128 .f32) (k v : Vec Ideal S2048x128 .bf16) (r : Fin 512) (d : Fin 128) :
    head x c s k v (ix2 r d)
      = khead_out (fun j => kweight kscale kbound (fun d => rot (fun d => x (ix2 r d)) (fun d => c (ix2 r d)) (fun d => s (ix2 r d)) d)
        (fun d => k (ix2 j d))) (fun j => v (ix2 j d)) := by
  pointwise [head]
  simp only [weights_apply]
  rfl

/-- A group's columns within all the key (or value) columns. -/
theorem group_apply (k : Vec Ideal S2048x512 .bf16) (g : Fin 4) (j : Fin 2048) (d : Fin 128) :
    View.ld k (group g) (ix2 j d) = k (ix2 j (kcol g d)) := by
  rw [View.ld_unit]
  pointwise
  rfl

/-- Head `n` at an element. -/
theorem headAt_apply (c s : FVec Ideal S512x128 .f32) (xa : FVec Ideal S512x2048 .f32) (k v : Vec Ideal S2048x512 .bf16)
    (n : Fin 16) (r : Fin 512) (d : Fin 128) :
    headAt c s xa k v n (ix2 r d)
      = khead_out (fun j => kweight kscale kbound
          (fun d => rot (fun d => xa (ix2 r (qcol n d))) (fun d => c (ix2 r d)) (fun d => s (ix2 r d)) d)
          (fun d => k (ix2 j (kcol (Model.grp n) d)))) (fun j => v (ix2 j (kcol (Model.grp n) d))) := by
  have hs : ∀ d : Fin 128, extractStridedSlice S512x128 ![0, 128 * n.val] xa (slicesHead n) (ix2 r d) = xa (ix2 r (qcol n d)) := by
    intro d
    pointwise
    rfl
  unfold headAt
  rw [head_apply]
  simp only [hs]
  exact congrArg₂ khead_out (funext fun j => congrArg (kweight _ _ _) (funext fun d => group_apply k _ j d))
    (funext fun j => group_apply v _ j d)

/-- The sixteen heads at an element: the head and the place in it are the column's quotient and remainder by 128. -/
theorem heads_apply (c s : FVec Ideal S512x128 .f32) (xa : FVec Ideal S512x2048 .f32) (k v : Vec Ideal S2048x512 .bf16)
    (r : Fin 512) (m : Fin 2048) :
    heads c s xa k v (ix2 r m) = headAt c s xa k v (qhead m) (ix2 r (qlane m)) :=
  concatenate_ofFn_apply (t := S512x2048) (s₁ := S512x128) 1 (fun n : Fin 16 => headAt c s xa k v n) _ rfl 128 rfl (ix2 r m) (qhead m) rfl
    (ix2 r (qlane m)) rfl fun b hb => by
      fin_cases b
      · rfl
      · exact absurd rfl hb

theorem queries_apply (x0 : Vec Ideal S512x2048 .f32) (x1 : Vec Ideal S2048x2048 .bf16) (x2 : Vec Ideal S1x2048 .f32)
    (r : Fin 512) (m : Fin 2048) :
    k1_pay8 x0 x1 x2 (ix2 r m) = lin (fun e => x0 (ix2 r e)) (fun e => x1 (ix2 m e)) (x2 (ix2 0 m)) := by
  pointwise [k1_pay8]
  rfl

theorem project_apply (h : FVec Ideal S512x2048 .bf16) (x7 : Vec Ideal S2048x2048 .bf16) (r : Fin 512) (o : Fin 2048) :
    k1_pay5 h x7 (ix2 r o) = ∑ m, h (ix2 r m) * x7 (ix2 o m) := by
  pointwise [k1_pay5]

/-- The attention kernel's output block at an element. -/
theorem block_apply (x0 : Vec Ideal S512x2048 .f32) (x1 : Vec Ideal S2048x2048 .bf16) (x2 : Vec Ideal S1x2048 .f32)
    (x3 x4 : Vec Ideal S512x128 .f32) (x5 x6 : Vec Ideal S2048x512 .bf16) (x7 : Vec Ideal S2048x2048 .bf16)
    (r : Fin 512) (o : Fin 2048) :
    out1_8 x0 x1 x2 x3 x4 x5 x6 x7 (ix2 r o)
      = ∑ m, khead_out (fun j => kweight kscale kbound
          (fun d => rot (fun d => lin (fun e => x0 (ix2 r e)) (fun e => x1 (ix2 (qcol (qhead m) d) e)) (x2 (ix2 0 (qcol (qhead m) d))))
            (fun d => x3 (ix2 r d)) (fun d => x4 (ix2 r d)) d)
          (fun d => x5 (ix2 j (kcol (Model.grp (qhead m)) d)))) (fun j => x6 (ix2 j (kcol (Model.grp (qhead m)) (qlane m))))
        * x7 (ix2 o m) := by
  have z : (![0, 0] : Fin 2 → Nat) = fun _ => 0 := funext fun a => by fin_cases a <;> rfl
  have e0 : View.ld x0 r1_0 = x0 := View.ld_unit_zero (S := S512x2048) z _ _
  have e1 : View.ld x1 r1_2 = x1 := View.ld_unit_zero (S := S2048x2048) z _ _
  have e2 : View.ld x2 r1_3 = x2 := View.ld_unit_zero (S := S1x2048) z _ _
  have e3 : View.ld x3 r1_1 = x3 := View.ld_unit_zero (S := S512x128) z _ _
  have e4 : View.ld x4 r1_1 = x4 := View.ld_unit_zero (S := S512x128) z _ _
  have e7 : View.ld x7 r1_2 = x7 := View.ld_unit_zero (S := S2048x2048) z _ _
  rw [out_eq, View.canon_unit_zero z, e0, e1, e2, e3, e4, e7, project_apply]
  simp only [heads_apply, headAt_apply, queries_apply]
  have h6 : ∀ (y : Vec Ideal S512x128 .f32) (d : Fin 128), k1_pay6 y (ix2 r d) = y (ix2 r d) := fun y d => by pointwise [k1_pay6]
  have h7 : ∀ (y : Vec Ideal S512x128 .f32) (d : Fin 128), k1_pay7 y (ix2 r d) = y (ix2 r d) := fun y d => by pointwise [k1_pay7]
  simp only [h6, h7]

end Cert.KernelIdeal.Heads
-- ==== Proof.ProjectBlock.lean ====
/- # One block of the projection kernel, element by element

What the first kernel's body leaves in its four output blocks: the rotated keys, the values, and the copies of the query
and output weights. -/
module

public import proofs.«01_k».proof.Proof.IdealRegion0
public import proofs.«01_k».proof.Proof.AttendBlock

@[expose] public section

set_option maxRecDepth 16384

noncomputable section

namespace Cert.KernelIdeal.Heads

open Cert.KernelIdeal Cert.KernelIdeal.Gen Cert.KernelIdeal.Run Cert.Model
open Idealize.ShloMosaic Idealize.SL.Sem

/-- A key column among the 1024 projected columns. -/
def lo (m : Fin 512) : Fin 1024 := ⟨m.val, by omega⟩
/-- A value column among the 1024 projected columns. -/
def hi (m : Fin 512) : Fin 1024 := ⟨512 + m.val, by omega⟩

theorem zeros : (![0, 0] : Fin 2 → Nat) = fun _ => 0 := funext fun a => by fin_cases a <;> rfl

theorem slicesKey (g : Fin 4) : S512x1024.Slices ![0, 128 * g.val] S512x128 := by
  revert g; decide

/-- The four rotated key heads side by side. -/
def kheads {F : FTy → Type} [FloatOps F] [Named F] (c s : FVec F S512x128 .f32) (y : FVec F S512x1024 .f32) : FVec F S512x512 .bf16 :=
  concatenate S512x512 1
    (List.ofFn fun g : Fin 4 => (⟨S512x128, truncf .bf16 (rope (extractStridedSlice S512x128 ![0, 128 * g.val] y (slicesKey g)) c s)
      bitsLt_bf16_f32⟩ : (s : Shape) × (s.Idx → F .bf16)))
    concatenates_S512x128_S512x128_S512x128_S512x128_S512x512_d1

set_option maxHeartbeats 4000000 in
/-- The body's key block is the four rotated heads. -/
theorem outK_eq {F : FTy → Type} [FloatOps F] [Named F] (x0 : Vec F S512x2048 .f32) (w : Vec F S1024x2048 .bf16)
    (x3 : Vec F S1x1024 .f32) (x4 x5 : Vec F S512x128 .f32) :
    outK x0 w x3 x4 x5 = View.canon [⟨rOut, kheads (k0_pay8 (View.ld x4 rRot)) (k0_pay9 (View.ld x5 rRot))
      (k0_pay7 (View.ld x0 rHid) (View.ld w rWkv) (View.ld x3 rBias))⟩] := rfl

theorem lo_not_mem (m : Fin 512) (e : Fin 2048) : (ix2 (lo m) e : S1024x2048.Idx) ∉ rBot.set := fun h => by
  obtain ⟨i, _, hi⟩ := (LoadRect.mem_set _).mp h (0 : Fin 2)
  have hi' : m.val = 512 + 1 * i := hi
  exact absurd m.isLt (by rw [hi']; exact Nat.not_lt.2 (Nat.le_add_right 512 _))

theorem emb_lo (m : Fin 512) (e : Fin 2048) : rTop.emb (ix2 m e) = ix2 (lo m) e := by
  funext x; apply Fin.ext
  fin_cases x
  · show 0 + 1 * m.val = m.val; omega
  · show 0 + 1 * e.val = e.val; omega

theorem emb_hi (m : Fin 512) (e : Fin 2048) : rBot.emb (ix2 m e) = ix2 (hi m) e := by
  funext x; apply Fin.ext
  fin_cases x
  · show 512 + 1 * m.val = 512 + m.val; omega
  · show 0 + 1 * e.val = e.val; omega

/-- Off the later of two stores the earlier one is read. -/
theorem halves_off (p q : Vec Ideal S512x2048 .bf16) (y : S1024x2048.Idx) (hy : y ∉ rBot.set) :
    View.canon [(⟨rBot, p⟩ : View.Piece (Elt Ideal) S1024x2048 .bf16), ⟨rTop, q⟩] y
      = View.canon [(⟨rTop, q⟩ : View.Piece (Elt Ideal) S1024x2048 .bf16)] y :=
  View.canon_cons_of_not_mem (⟨rBot, p⟩ : View.Piece (Elt Ideal) S1024x2048 .bf16) [⟨rTop, q⟩] hy

/-- The earlier store at its own rows. -/
theorem upper_apply (q : Vec Ideal S512x2048 .bf16) (m : Fin 512) (e : Fin 2048) :
    View.canon [(⟨rTop, q⟩ : View.Piece (Elt Ideal) S1024x2048 .bf16)] (ix2 (lo m) e) = q (ix2 m e) :=
  (congrArg (View.canon _) (emb_lo m e).symm).trans (View.canon_cons_emb rTop q [] (ix2 m e))

/-- Two halves stored one after the other: a row above 512 is the earlier one's. -/
theorem halves_lo (p q : Vec Ideal S512x2048 .bf16) (m : Fin 512) (e : Fin 2048) :
    View.canon [(⟨rBot, p⟩ : View.Piece (Elt Ideal) S1024x2048 .bf16), ⟨rTop, q⟩] (ix2 (lo m) e) = q (ix2 m e) :=
  (halves_off p q _ (lo_not_mem m e)).trans (upper_apply q m e)

/-- A row from 512 is the later one's. -/
theorem halves_hi (p q : Vec Ideal S512x2048 .bf16) (m : Fin 512) (e : Fin 2048) :
    View.canon [(⟨rBot, p⟩ : View.Piece (Elt Ideal) S1024x2048 .bf16), ⟨rTop, q⟩] (ix2 (hi m) e) = p (ix2 m e) :=
  (congrArg (View.canon _) (emb_hi m e).symm).trans (View.canon_cons_emb rBot p _ (ix2 m e))

/-- The scratch rows above 512 hold the key weights. -/
theorem wkv_lo (x1 x2 : Vec Ideal S512x2048 .f32) (m : Fin 512) (e : Fin 2048) : wkv x1 x2 (ix2 (lo m) e) = x1 (ix2 m e) := by
  have e1 : View.ld x1 rHid = x1 := View.ld_unit_zero (S := S512x2048) zeros _ _
  refine (halves_lo _ _ m e).trans ?_
  rw [e1]
  pointwise [k0_pay5]

/-- The scratch rows from 512 hold the value weights. -/
theorem wkv_hi (x1 x2 : Vec Ideal S512x2048 .f32) (m : Fin 512) (e : Fin 2048) : wkv x1 x2 (ix2 (hi m) e) = x2 (ix2 m e) := by
  have e2 : View.ld x2 rHid = x2 := View.ld_unit_zero (S := S512x2048) zeros _ _
  refine (halves_hi _ _ m e).trans ?_
  rw [e2]
  pointwise [k0_pay6]

theorem projected_apply (x0 : Vec Ideal S512x2048 .f32) (w : Vec Ideal S1024x2048 .bf16) (x3 : Vec Ideal S1x1024 .f32)
    (r : Fin 512) (m : Fin 1024) :
    k0_pay7 x0 w x3 (ix2 r m) = lin (fun e => x0 (ix2 r e)) (fun e => w (ix2 m e)) (x3 (ix2 0 m)) := by
  pointwise [k0_pay7]
  rfl

/-- The rotated key heads at an element. -/
theorem kheads_apply (c s : FVec Ideal S512x128 .f32) (y : FVec Ideal S512x1024 .f32) (r : Fin 512) (m : Fin 512) :
    kheads c s y (ix2 r m)
      = rot (fun d => y (ix2 r (lo (kcol (khead m) d)))) (fun d => c (ix2 r d)) (fun d => s (ix2 r d)) (klane m) := by
  refine (concatenate_ofFn_apply (t := S512x512) (s₁ := S512x128) 1
    (fun g : Fin 4 => truncf .bf16 (rope (extractStridedSlice S512x128 ![0, 128 * g.val] y (slicesKey g)) c s) bitsLt_bf16_f32)
    _ rfl 128 rfl (ix2 r m) (khead m) rfl (ix2 r (klane m)) rfl fun b hb => by
      fin_cases b
      · rfl
      · exact absurd rfl hb).trans ?_
  have hs : ∀ d : Fin 128, extractStridedSlice S512x128 ![0, 128 * (khead m).val] y (slicesKey (khead m)) (ix2 r d)
      = y (ix2 r (lo (kcol (khead m) d))) := by
    intro d
    pointwise
    rfl
  refine (rope_apply _ _ _ r (klane m)).trans ?_
  simp only [hs]

/-- The key block at an element. -/
theorem outK_apply (x0 x1 x2 : Vec Ideal S512x2048 .f32) (x3 : Vec Ideal S1x1024 .f32) (x4 x5 : Vec Ideal S512x128 .f32)
    (r m : Fin 512) :
    outK x0 (wkv x1 x2) x3 x4 x5 (ix2 r m)
      = rot (fun d => lin (fun e => x0 (ix2 r e)) (fun e => x1 (ix2 (kcol (khead m) d) e)) (x3 (ix2 0 (lo (kcol (khead m) d)))))
          (fun d => x4 (ix2 r d)) (fun d => x5 (ix2 r d)) (klane m) := by
  have e0 : View.ld x0 rHid = x0 := View.ld_unit_zero (S := S512x2048) zeros _ _
  have e1 : View.ld (wkv x1 x2) rWkv = wkv x1 x2 := View.ld_unit_zero (S := S1024x2048) zeros _ _
  have e3 : View.ld x3 rBias = x3 := View.ld_unit_zero (S := S1x1024) zeros _ _
  have e4 : View.ld x4 rRot = x4 := View.ld_unit_zero (S := S512x128) zeros _ _
  have e5 : View.ld x5 rRot = x5 := View.ld_unit_zero (S := S512x128) zeros _ _
  have h8 : ∀ (y : Vec Ideal S512x128 .f32) (d : Fin 128), k0_pay8 y (ix2 r d) = y (ix2 r d) := fun y d => by pointwise [k0_pay8]
  have h9 : ∀ (y : Vec Ideal S512x128 .f32) (d : Fin 128), k0_pay9 y (ix2 r d) = y (ix2 r d) := fun y d => by pointwise [k0_pay9]
  rw [outK_eq, View.canon_unit_zero zeros, e0, e1, e3, e4, e5, kheads_apply]
  simp only [projected_apply, wkv_lo, h8, h9]

/-- The value block at an element. -/
theorem outV_apply (x0 x1 x2 : Vec Ideal S512x2048 .f32) (x3 : Vec Ideal S1x1024 .f32) (r m : Fin 512) :
    outV x0 (wkv x1 x2) x3 (ix2 r m)
      = lin (fun e => x0 (ix2 r e)) (fun e => x2 (ix2 m e)) (x3 (ix2 0 (hi m))) := by
  have e0 : View.ld x0 rHid = x0 := View.ld_unit_zero (S := S512x2048) zeros _ _
  have e1 : View.ld (wkv x1 x2) rWkv = wkv x1 x2 := View.ld_unit_zero (S := S1024x2048) zeros _ _
  have e3 : View.ld x3 rBias = x3 := View.ld_unit_zero (S := S1x1024) zeros _ _
  have h2 : ∀ y : FVec Ideal S512x1024 .f32, k0_pay2 y (ix2 r m) = y (ix2 r (hi m)) := fun y => by
    pointwise [k0_pay2]
    rfl
  unfold outV
  rw [View.canon_unit_zero zeros, e0, e1, e3, h2]
  simp only [projected_apply, wkv_hi]

/-- The query weights' copy is a copy. -/
theorem outWq_apply (x : Vec Ideal S512x2048 .f32) (r : Fin 512) (e : Fin 2048) : outWq x (ix2 r e) = x (ix2 r e) := by
  have e0 : View.ld x rHid = x := View.ld_unit_zero (S := S512x2048) zeros _ _
  unfold outWq
  rw [View.canon_unit_zero zeros, e0]
  pointwise [k0_pay3]

/-- The output weights' copy is a copy. -/
theorem outWo_apply (x : Vec Ideal S512x2048 .f32) (r : Fin 512) (e : Fin 2048) : outWo x (ix2 r e) = x (ix2 r e) := by
  have e0 : View.ld x rHid = x := View.ld_unit_zero (S := S512x2048) zeros _ _
  unfold outWo
  rw [View.canon_unit_zero zeros, e0]
  pointwise [k0_pay4]

end Cert.KernelIdeal.Heads
-- ==== Proof.ProjectArrays.lean ====
/- # The arrays the first kernel leaves

The first kernel's grid has four points, each writing 512 rows of four arrays. Whatever the arrays hold when the kernel
is entered, it leaves the rotated keys, the values, and the query and output weights as they were. -/
module

public import proofs.«01_k».proof.Proof.ProjectBlock

@[expose] public section

set_option maxRecDepth 16384

noncomputable section

namespace Cert.KernelIdeal.Heads

open Cert.KernelIdeal Cert.KernelIdeal.Gen Cert.KernelIdeal.Run Cert.Model
open Idealize.ShloMosaic Idealize.ShloMosaic.TcCoe Idealize.SL.Sem

/-! ## Where the blocks lie: window by window, the block index at each grid point -/

theorem idx0_0 : ∀ t : Fin cfg0.N, win0_0.index t = ![(t : ℕ), 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![(t : ℕ), 0] := (by decide +kernel : ∀ t : Fin grid0.N, _)
theorem idx0_5 : ∀ t : Fin cfg0.N, win0_5.index t = ![(t : ℕ), 0] := (by decide +kernel : ∀ t : Fin grid0.N, _)
theorem idx0_6 : ∀ t : Fin cfg0.N, win0_6.index t = ![(t : ℕ), 0] := (by decide +kernel : ∀ t : Fin grid0.N, _)
theorem idx0_7 : ∀ t : Fin cfg0.N, win0_7.index t = ![(t : ℕ), 0] := (by decide +kernel : ∀ t : Fin grid0.N, _)
theorem idx0_8 : ∀ t : Fin cfg0.N, win0_8.index t = ![(t : ℕ), 0] := (by decide +kernel : ∀ t : Fin grid0.N, _)
theorem idx0_9 : ∀ t : Fin cfg0.N, win0_9.index t = ![(t : ℕ), 0] := (by decide +kernel : ∀ t : Fin grid0.N, _)
theorem idx0_10 : ∀ t : Fin cfg0.N, win0_10.index t = ![(t : ℕ), 0] := (by decide +kernel : ∀ t : Fin grid0.N, _)
theorem idx0_11 : ∀ t : Fin cfg0.N, win0_11.index t = ![(t : ℕ), 0] := (by decide +kernel : ∀ t : Fin grid0.N, _)

/-- Row `r` of the block of grid point `t`, among all the rows. -/
def rowAt (t : Fin 4) (r : Fin 512) : Fin 2048 := ⟨(t : ℕ) * 512 + r, by omega⟩

variable (V : (c : Dev nD) → (b : Ref sig .tc) → Buf (Elt Ideal) ((c : Thread nD τ).loc b)) (c : Dev nD)

/-! ## The blocks read: a row of the array, or the array -/

theorem read0_0 (t : Fin cfg0.N) (r : Fin 512) (e : Fin 2048) :
    iblk0 V c 0 t (ix2 r e) = V c main_v0 (ix2 (rowAt t r) e) := by
  blk_ext [iblk0, idx0_0 t, rowAt]

theorem read0_1 (t : Fin cfg0.N) (o : Fin 512) (e : Fin 2048) :
    iblk0 V c 1 t (ix2 o e) = V c main_arg7 (ix2 o e) := by
  blk_ext [iblk0, idx0_1 t]

theorem read0_2 (t : Fin cfg0.N) (o : Fin 512) (e : Fin 2048) :
    iblk0 V c 2 t (ix2 o e) = V c main_arg9 (ix2 o e) := by
  blk_ext [iblk0, idx0_2 t]

theorem read0_3 (t : Fin cfg0.N) (o : Fin 1024) :
    iblk0 V c 3 t (ix2 0 o) = V c main_call0_v1 (ix2 0 o) := by
  blk_ext [iblk0, idx0_3 t]

theorem read0_4 (t : Fin cfg0.N) (r : Fin 512) (d : Fin 128) :
    iblk0 V c 4 t (ix2 r d) = V c main_v1 (ix2 (rowAt t r) d) := by
  blk_ext [iblk0, idx0_4 t, rowAt]

theorem read0_5 (t : Fin cfg0.N) (r : Fin 512) (d : Fin 128) :
    iblk0 V c 5 t (ix2 r d) = V c main_v2 (ix2 (rowAt t r) d) := by
  blk_ext [iblk0, idx0_5 t, rowAt]

theorem read0_6 (t : Fin cfg0.N) (r : Fin 512) (e : Fin 2048) :
    iblk0 V c 6 t (ix2 r e) = V c main_arg5 (ix2 (rowAt t r) e) := by
  blk_ext [iblk0, idx0_6 t, rowAt]

theorem read0_7 (t : Fin cfg0.N) (r : Fin 512) (e : Fin 2048) :
    iblk0 V c 7 t (ix2 r e) = V c main_arg11 (ix2 (rowAt t r) e) := by
  blk_ext [iblk0, idx0_7 t, rowAt]

/-! ## The arrays -/

/-- The rotated key of row `i` at column `m`. -/
def keyAt (x : Vec Ideal S2048x2048 .f32) (w : Vec Ideal S512x2048 .f32) (b : Vec Ideal S1x1024 .f32)
    (cos sin : Vec Ideal S2048x128 .f32) (i : Fin 2048) (m : Fin 512) : EReal :=
  rot (fun d => lin (fun e => x (ix2 i e)) (fun e => w (ix2 (kcol (khead m) d) e)) (b (ix2 0 (lo (kcol (khead m) d)))))
    (fun d => cos (ix2 i d)) (fun d => sin (ix2 i d)) (klane m)

/-- The value of row `i` at column `m`. -/
def valueAt (x : Vec Ideal S2048x2048 .f32) (w : Vec Ideal S512x2048 .f32) (b : Vec Ideal S1x1024 .f32)
    (i : Fin 2048) (m : Fin 512) : EReal :=
  lin (fun e => x (ix2 i e)) (fun e => w (ix2 m e)) (b (ix2 0 (hi m)))

theorem keyBlock (t : Fin cfg0.N) (r m : Fin 512) :
    outK (iblk0 V c 0 t) (wkvAt V c) (iblk0 V c 3 t) (iblk0 V c 4 t) (iblk0 V c 5 t) (ix2 r m)
      = keyAt (V c main_v0) (V c main_arg7) (V c main_call0_v1) (V c main_v1) (V c main_v2) (rowAt t r) m := by
  unfold wkvAt
  rw [outK_apply]
  simp only [read0_0, read0_1, read0_3, read0_4, read0_5, keyAt]

theorem valueBlock (t : Fin cfg0.N) (r m : Fin 512) :
    outV (iblk0 V c 0 t) (wkvAt V c) (iblk0 V c 3 t) (ix2 r m) = valueAt (V c main_v0) (V c main_arg9) (V c main_call0_v1) (rowAt t r) m := by
  unfold wkvAt
  rw [outV_apply]
  simp only [read0_0, read0_2, read0_3, valueAt]

/-- The key array. -/
theorem keys : (dat0 V c).arrAt 8 cfg0.N
    = fun y => keyAt (V c main_v0) (V c main_arg7) (V c main_call0_v1) (V c main_v1) (V c main_v2) (y 0) (y 1) := by
  refine (dat0 V c).arrAt_eq_of_covers 8 _ (by decide +kernel) fun t hf y => ?_
  blk_simp
  rw [after0_8]
  refine ((congrArg _ (ix2_eta (n0 := 512) (n1 := 512) y).symm).trans (keyBlock V c t (y 0) (y 1))).trans ?_
  refine congrArg₂ (keyAt _ _ _ _ _) (Fin.ext ?_) (Fin.ext ?_) <;> blk_simp [idx0_8 t, rowAt]

/-- The value array. -/
theorem values : (dat0 V c).arrAt 9 cfg0.N
    = fun y => valueAt (V c main_v0) (V c main_arg9) (V c main_call0_v1) (y 0) (y 1) := by
  refine (dat0 V c).arrAt_eq_of_covers 9 _ (by decide +kernel) fun t hf y => ?_
  blk_simp
  rw [after0_9]
  refine ((congrArg _ (ix2_eta (n0 := 512) (n1 := 512) y).symm).trans (valueBlock V c t (y 0) (y 1))).trans ?_
  refine congrArg₂ (valueAt _ _ _) (Fin.ext ?_) (Fin.ext ?_) <;> blk_simp [idx0_9 t, rowAt]

/-- The query weights, copied. -/
theorem queryWeights : (dat0 V c).arrAt 10 cfg0.N = fun y => V c main_arg5 y := by
  refine (dat0 V c).arrAt_eq_of_covers 10 _ (by decide +kernel) fun t hf y => ?_
  blk_simp
  rw [after0_10]
  refine ((congrArg _ (ix2_eta (n0 := 512) (n1 := 2048) y).symm).trans (outWq_apply _ (y 0) (y 1))).trans ?_
  refine (read0_6 V c t (y 0) (y 1)).trans ?_
  blk_ext [idx0_10 t, rowAt]

/-- The output weights, copied. -/
theorem outWeights : (dat0 V c).arrAt 11 cfg0.N = fun y => V c main_arg11 y := by
  refine (dat0 V c).arrAt_eq_of_covers 11 _ (by decide +kernel) fun t hf y => ?_
  blk_simp
  rw [after0_11]
  refine ((congrArg _ (ix2_eta (n0 := 512) (n1 := 2048) y).symm).trans (outWo_apply _ (y 0) (y 1))).trans ?_
  refine (read0_7 V c t (y 0) (y 1)).trans ?_
  blk_ext [idx0_11 t, rowAt]

end Cert.KernelIdeal.Heads
-- ==== Proof.AttendArray.lean ====
/- # The array the second kernel leaves

The second kernel's grid has four points, each writing 512 rows of the result. Whatever the arrays hold when the kernel
is entered, element `(i, o)` of the result is the sum over the heads' columns of the head's element times the output
weight. -/
module

public import proofs.«01_k».proof.Proof.AttendBlock
public import proofs.«01_k».proof.Proof.ProjectArrays

@[expose] public section

set_option maxRecDepth 16384

noncomputable section

namespace Cert.KernelIdeal.Heads

open Cert.KernelIdeal Cert.KernelIdeal.Gen Cert.KernelIdeal.Run Cert.Model
open Idealize.ShloMosaic Idealize.ShloMosaic.TcCoe Idealize.SL.Sem

/-! ## Where the blocks lie: window by window, the block index at each grid point -/

theorem idx1_0 : ∀ t : Fin cfg1.N, win1_0.index t = ![(t : ℕ), 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![(t : ℕ), 0] := (by decide +kernel : ∀ t : Fin grid1.N, _)
theorem idx1_4 : ∀ t : Fin cfg1.N, win1_4.index t = ![(t : ℕ), 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![(t : ℕ), 0] := (by decide +kernel : ∀ t : Fin grid1.N, _)

variable (V : (c : Dev nD) → (b : Ref sig .tc) → Buf (Elt Ideal) ((c : Thread nD τ).loc b)) (c : Dev nD)

/-! ## The blocks read: a row of the array, or the array -/

theorem read1_0 (t : Fin cfg1.N) (r : Fin 512) (e : Fin 2048) :
    iblk1 V c 0 t (ix2 r e) = V c main_v0 (ix2 (rowAt t r) e) := by
  blk_ext [iblk1, idx1_0 t, rowAt]

theorem read1_1 (t : Fin cfg1.N) (o e : Fin 2048) :
    iblk1 V c 1 t (ix2 o e) = V c main_call0_v2_2 (ix2 o e) := by
  blk_ext [iblk1, idx1_1 t]

theorem read1_2 (t : Fin cfg1.N) (o : Fin 2048) :
    iblk1 V c 2 t (ix2 0 o) = V c main_call0_v3 (ix2 0 o) := by
  blk_ext [iblk1, idx1_2 t]

theorem read1_3 (t : Fin cfg1.N) (r : Fin 512) (d : Fin 128) :
    iblk1 V c 3 t (ix2 r d) = V c main_v1 (ix2 (rowAt t r) d) := by
  blk_ext [iblk1, idx1_3 t, rowAt]

theorem read1_4 (t : Fin cfg1.N) (r : Fin 512) (d : Fin 128) :
    iblk1 V c 4 t (ix2 r d) = V c main_v2 (ix2 (rowAt t r) d) := by
  blk_ext [iblk1, idx1_4 t, rowAt]

theorem read1_5 (t : Fin cfg1.N) (j : Fin 2048) (m : Fin 512) :
    iblk1 V c 5 t (ix2 j m) = V c main_call0_v2_0 (ix2 j m) := by
  blk_ext [iblk1, idx1_5 t]

theorem read1_6 (t : Fin cfg1.N) (j : Fin 2048) (m : Fin 512) :
    iblk1 V c 6 t (ix2 j m) = V c main_call0_v2_1 (ix2 j m) := by
  blk_ext [iblk1, idx1_6 t]

theorem read1_7 (t : Fin cfg1.N) (o m : Fin 2048) :
    iblk1 V c 7 t (ix2 o m) = V c main_call0_v2_3 (ix2 o m) := by
  blk_ext [iblk1, idx1_7 t]

/-- The result at row `i`, column `o`, from the arrays the second kernel reads: hidden states, query weights and bias,
    rotary tables, keys, values and output weights. -/
def resultAt (x : Vec Ideal S2048x2048 .f32) (wq : Vec Ideal S2048x2048 .bf16) (bq : Vec Ideal S1x2048 .f32)
    (cos sin : Vec Ideal S2048x128 .f32) (k v : Vec Ideal S2048x512 .bf16) (wo : Vec Ideal S2048x2048 .bf16)
    (i o : Fin 2048) : EReal :=
  ∑ m, khead_out
      (fun j => kweight kscale kbound
        (fun d => rot (fun d => lin (fun e => x (ix2 i e)) (fun e => wq (ix2 (qcol (qhead m) d) e))
            (bq (ix2 0 (qcol (qhead m) d)))) (fun d => cos (ix2 i d)) (fun d => sin (ix2 i d)) d)
        (fun d => k (ix2 j (kcol (Model.grp (qhead m)) d))))
      (fun j => v (ix2 j (kcol (Model.grp (qhead m)) (qlane m)))) * wo (ix2 o m)

theorem resultBlock (t : Fin cfg1.N) (r : Fin 512) (o : Fin 2048) :
    out1_8 (iblk1 V c 0 t) (iblk1 V c 1 t) (iblk1 V c 2 t) (iblk1 V c 3 t) (iblk1 V c 4 t) (iblk1 V c 5 t)
        (iblk1 V c 6 t) (iblk1 V c 7 t) (ix2 r o)
      = resultAt (V c main_v0) (V c main_call0_v2_2) (V c main_call0_v3) (V c main_v1) (V c main_v2)
          (V c main_call0_v2_0) (V c main_call0_v2_1) (V c main_call0_v2_3) (rowAt t r) o := by
  rw [block_apply]
  simp only [read1_0, read1_1, read1_2, read1_3, read1_4, read1_5, read1_6, read1_7, resultAt]

/-- The result array. -/
theorem result : (dat1 V c).arrAt 8 cfg1.N
    = fun y => resultAt (V c main_v0) (V c main_call0_v2_2) (V c main_call0_v3) (V c main_v1) (V c main_v2)
        (V c main_call0_v2_0) (V c main_call0_v2_1) (V c main_call0_v2_3) (y 0) (y 1) := by
  refine (dat1 V c).arrAt_eq_of_covers 8 _ (by decide +kernel) fun t hf y => ?_
  blk_simp
  rw [after1_8]
  refine ((congrArg _ (ix2_eta (n0 := 512) (n1 := 2048) y).symm).trans (resultBlock V c t (y 0) (y 1))).trans ?_
  refine congrArg₂ (resultAt _ _ _ _ _ _ _ _) (Fin.ext ?_) (Fin.ext ?_) <;> blk_simp [idx1_8 t, rowAt]

end Cert.KernelIdeal.Heads
-- ==== Proof.HostValues.lean ====
/- # What the host's operations around the two kernels compute

The host drops the leading unit axis of the hidden states and the rotary tables, puts the key and value biases one after
the other, makes rows of the biases, and puts the unit axis back on the result. -/
module

public import proofs.«01_k».proof.Proof.AttendArray
public import proofs.«01_k».proof.Proof.IdealRun
public import Idealize.ShloMosaic.Lib.StableHlo.Run

@[expose] public section

set_option maxRecDepth 16384

noncomputable section

namespace Cert.KernelIdeal.Heads

open Cert.KernelIdeal Cert.KernelIdeal.Gen Cert.KernelIdeal.Run Cert.Model
open Idealize.ShloMosaic Idealize.ShloMosaic.TcCoe Idealize.SL.Sem Idealize.ShloMosaic.StableHlo

/-! ## The operations, on the contents of the buffers they read -/

variable (W : Valuation τ sig (Elt Ideal))

theorem hidden_after : after hostOps0 W (Proc.devRef .tc main_v0)
    = shapeCast S2048x2048 (W (Proc.devRef .tc main_arg0)) shapeCasts_S1x2048x2048_S2048x2048 := by
  after_results
  rfl

theorem cos_after : after hostOps0 W (Proc.devRef .tc main_v1)
    = shapeCast S2048x128 (W (Proc.devRef .tc main_arg1)) shapeCasts_S1x2048x128_S2048x128 := by
  after_results
  rfl

theorem sin_after : after hostOps0 W (Proc.devRef .tc main_v2)
    = shapeCast S2048x128 (W (Proc.devRef .tc main_arg2)) shapeCasts_S1x2048x128_S2048x128 := by
  after_results
  rfl

/-- The key and value biases as one row. -/
def biasRow (a b : Vec Ideal S512 .f32) : Vec Ideal S1x1024 .f32 :=
  broadcastInDim S1x1024 ![1] bcast_S1024_S1x1024_1
    (concatenate S1024 0 [⟨S512, a⟩, ⟨S512, b⟩] concatenates_S512_S512_S1024_d0)

theorem bias_after : after hostOps0_1 W (Proc.devRef .tc main_call0_v1)
    = biasRow (W (Proc.devRef .tc main_arg8)) (W (Proc.devRef .tc main_arg10)) := by
  after_results
  rfl

theorem queryBias_after : after hostOps1 W (Proc.devRef .tc main_call0_v3)
    = broadcastInDim S1x2048 ![1] bcast_S2048_S1x2048_1 (W (Proc.devRef .tc main_arg6)) := by
  after_results
  rfl

theorem result_after : after hostOps2 W (Proc.devRef .tc main_v4)
    = broadcastInDim S1x2048x2048 ![1, 2] bcast_S2048x2048_S1x2048x2048_1_2 (W (Proc.devRef .tc main_v3)) := by
  after_results

/-! ## … and element by element -/

theorem hidden_apply (x : Vec Ideal S1x2048x2048 .f32) (i e : Fin 2048) :
    shapeCast S2048x2048 x shapeCasts_S1x2048x2048_S2048x2048 (ix2 i e) = x (ix3 0 i e) := by
  pointwise []

theorem table_apply (x : Vec Ideal S1x2048x128 .f32) (i : Fin 2048) (d : Fin 128) :
    shapeCast S2048x128 x shapeCasts_S1x2048x128_S2048x128 (ix2 i d) = x (ix3 0 i d) := by
  pointwise []

theorem biasRow_lo (a b : Vec Ideal S512 .f32) (o : Fin 512) : biasRow a b (ix2 0 (lo o)) = a (ix1 o) := by
  pointwise [biasRow, lo]

theorem biasRow_hi (a b : Vec Ideal S512 .f32) (o : Fin 512) : biasRow a b (ix2 0 (hi o)) = b (ix1 o) := by
  pointwise [biasRow, hi]

theorem queryBias_apply (a : Vec Ideal S2048 .f32) (o : Fin 2048) :
    broadcastInDim S1x2048 ![1] bcast_S2048_S1x2048_1 a (ix2 0 o) = a (ix1 o) := by
  pointwise []

theorem result_apply (x : Vec Ideal S2048x2048 .f32) (i o : Fin 2048) :
    broadcastInDim S1x2048x2048 ![1, 2] bcast_S2048x2048_S1x2048x2048_1_2 x (ix3 0 i o) = x (ix2 i o) := by
  pointwise []

end Cert.KernelIdeal.Heads
-- ==== Proof.RefScores.lean ====
/- # The reference's projections and scores, element by element -/
module

public import proofs.«01_k».proof.Proof.Model
public import proofs.«01_k».proof.Proof.Literals
public import proofs.«01_k».proof.Proof.RefRead
public import Idealize.ShloMosaic.Lib.Pointwise

@[expose] public section

set_option maxRecDepth 16384

noncomputable section

namespace Cert.ReferenceIdeal.RefValue

open Cert.ReferenceIdeal Cert.ReferenceIdeal.Gen Cert.ReferenceIdeal.Read Cert.Model
open Idealize.ShloMosaic Idealize.SL.Sem

variable (x0 : FVec Ideal S1x2048x2048 .f32) (x1 x2 : FVec Ideal S1x2048x128 .f32) (x3 : Vec Ideal S1x4x2048x2048 .i1)
  (x5 : FVec Ideal S2048x2048 .f32) (x6 : FVec Ideal S2048 .f32) (x7 : FVec Ideal S512x2048 .f32) (x8 : FVec Ideal S512 .f32)
  (x9 : FVec Ideal S512x2048 .f32) (x10 : FVec Ideal S512 .f32) (x11 : FVec Ideal S2048x2048 .f32)

/-- The program's arguments as functions of plain indices. -/
def args : Args where
  hid i e := x0 (ix3 0 i e)
  cos i d := x1 (ix3 0 i d)
  sin i d := x2 (ix3 0 i d)
  wq o e := x5 (ix2 o e)
  bq o := x6 (ix1 o)
  wk o e := x7 (ix2 o e)
  bk o := x8 (ix1 o)
  wv o e := x9 (ix2 o e)
  bv o := x10 (ix1 o)
  wo o m := x11 (ix2 o m)

/-- The projected queries, head by head. -/
theorem queries_apply (n : Fin 16) (i : Fin 2048) (d : Fin 128) :
    val_main_v6 (F := Ideal) x0 x5 x6 (ix4 0 n i d) = lin (fun e => x0 (ix3 0 i e)) (fun e => x5 (ix2 (qcol n d) e)) (x6 (ix1 (qcol n d))) := by
  pointwise [val_main_v6, val_main_v5, val_main_v4, val_main_v3, val_main_v2, val_main_v1, val_main_v0]
  simp only [lin, qcol, Nat.mul_comm 128]

/-- The projected keys, head by head. -/
theorem keys_apply (g : Fin 4) (i : Fin 2048) (d : Fin 128) :
    val_main_v13 (F := Ideal) x0 x7 x8 (ix4 0 g i d) = lin (fun e => x0 (ix3 0 i e)) (fun e => x7 (ix2 (kcol g d) e)) (x8 (ix1 (kcol g d))) := by
  pointwise [val_main_v13, val_main_v12, val_main_v11, val_main_v10, val_main_v9, val_main_v8, val_main_v7]
  simp only [lin, kcol, Nat.mul_comm 128]

/-- The projected values, head by head. -/
theorem values_apply (g : Fin 4) (i : Fin 2048) (d : Fin 128) :
    val_main_v20 (F := Ideal) x0 x9 x10 (ix4 0 g i d) = vh (args x0 x1 x2 x5 x6 x7 x8 x9 x10 x11) i g d := by
  pointwise [val_main_v20, val_main_v19, val_main_v18, val_main_v17, val_main_v16, val_main_v15, val_main_v14]
  simp only [vh, args, lin, kcol, Nat.mul_comm 128]

/-- The rotated queries. -/
theorem rotated_queries_apply (n : Fin 16) (i : Fin 2048) (d : Fin 128) :
    val_main_v31 (F := Ideal) x0 x1 x2 x5 x6 (ix4 0 n i d) = qh (args x0 x1 x2 x5 x6 x7 x8 x9 x10 x11) i n d := by
  pointwise [val_main_v31, val_main_v30, val_main_v29, val_main_v28, val_main_v27, val_main_v26, val_main_v25, val_main_v24, val_main_v23, val_main_v22, val_main_v21]
  simp only [queries_apply]
  rfl

/-- The rotated keys. -/
theorem rotated_keys_apply (g : Fin 4) (i : Fin 2048) (d : Fin 128) :
    val_main_v40 (F := Ideal) x0 x1 x2 x7 x8 (ix4 0 g i d) = kh (args x0 x1 x2 x5 x6 x7 x8 x9 x10 x11) i g d := by
  pointwise [val_main_v40, val_main_v39, val_main_v38, val_main_v37, val_main_v36, val_main_v35, val_main_v34, val_main_v33, val_main_v32, val_main_v22, val_main_v21]
  simp only [keys_apply]
  rfl

/-- The rotated keys, once for each query head. -/
theorem spread_keys_apply (n : Fin 16) (i : Fin 2048) (d : Fin 128) :
    val_main_v42 (F := Ideal) x0 x1 x2 x7 x8 (ix4 0 n i d) = kh (args x0 x1 x2 x5 x6 x7 x8 x9 x10 x11) i (grp n) d := by
  pointwise [val_main_v42, val_main_v41]
  exact rotated_keys_apply x0 x1 x2 x5 x6 x7 x8 x9 x10 x11 (grp n) i d

/-- The values, once for each query head. -/
theorem spread_values_apply (n : Fin 16) (i : Fin 2048) (d : Fin 128) :
    val_main_v44 (F := Ideal) x0 x9 x10 (ix4 0 n i d) = vh (args x0 x1 x2 x5 x6 x7 x8 x9 x10 x11) i (grp n) d := by
  pointwise [val_main_v44, val_main_v43]
  exact values_apply x0 x1 x2 x5 x6 x7 x8 x9 x10 x11 (grp n) i d

/-- The scores. -/
theorem score_apply (n : Fin 16) (i j : Fin 2048) :
    val_main_v47 (F := Ideal) x0 x1 x2 x5 x6 x7 x8 (ix4 0 n i j) = score (args x0 x1 x2 x5 x6 x7 x8 x9 x10 x11) i n j := by
  pointwise [val_main_v47]
  simp only [rotated_queries_apply x0 x1 x2 x5 x6 x7 x8 x9 x10 x11, spread_keys_apply x0 x1 x2 x5 x6 x7 x8 x9 x10 x11]
  rfl

/-- The scaled scores, under a mask that attends everywhere. -/
theorem masked_apply (hx3 : x3 = fun _ => 1#1) (n : Fin 16) (i j : Fin 2048) :
    val_main_v50 (F := Ideal) x0 x1 x2 x3 x5 x6 x7 x8 (ix4 0 n i j) = score (args x0 x1 x2 x5 x6 x7 x8 x9 x10 x11) i n j * (scale : EReal) := by
  subst hx3
  pointwise [val_main_v50, val_main_v49, val_main_v48, val_main_v46, val_main_v45, val_main_cst]
  rw [score_apply x0 x1 x2 x5 x6 x7 x8 x9 x10 x11, word_scale]

end Cert.ReferenceIdeal.RefValue
-- ==== Proof.RefValue.lean ====
/- # The reference's result, element by element -/
module

public import proofs.«01_k».proof.Proof.RefScores

@[expose] public section

set_option maxRecDepth 16384

noncomputable section

namespace Cert.ReferenceIdeal.RefValue

open Cert.ReferenceIdeal Cert.ReferenceIdeal.Gen Cert.ReferenceIdeal.Read Cert.Model
open Idealize.ShloMosaic Idealize.SL.Sem

variable (x0 : FVec Ideal S1x2048x2048 .f32) (x1 x2 : FVec Ideal S1x2048x128 .f32) (x3 : Vec Ideal S1x4x2048x2048 .i1)
  (x5 : FVec Ideal S2048x2048 .f32) (x6 : FVec Ideal S2048 .f32) (x7 : FVec Ideal S512x2048 .f32) (x8 : FVec Ideal S512 .f32)
  (x9 : FVec Ideal S512x2048 .f32) (x10 : FVec Ideal S512 .f32) (x11 : FVec Ideal S2048x2048 .f32)

/-- A maximum over the last axis, from an initial value. -/
theorem reduceMax_apply (x : FVec Ideal S1x16x2048x2048 .f32) (v : FVec Ideal S_ .f32) (n : Fin 16) (i : Fin 2048) :
    Host.reduce FloatOps.maximumf x v reducesTo_S1x16x2048x2048_S1x16x2048_d3 h_S_ (ix3 0 n i)
      = Finset.univ.fold FloatOps.maximumf (v (Shape.Idx.first h_S_)) (fun j => x (ix4 0 n i j)) := by
  rw [Host.reduce_eq_fold]
  exact Shape.ReducesTo.fold_fiber_r4_a3 reducesTo_S1x16x2048x2048_S1x16x2048_d3 (ix3 0 n i) _ _ _

/-- A fold of maxima from `⊥` is the row's largest. -/
theorem fold_eq_top (b : Ideal .f32) (hb : b = (⊥ : EReal)) (f : Fin 2048 → Ideal .f32) :
    Finset.univ.fold FloatOps.maximumf b f = top f := by
  subst hb
  rfl

/-- The largest score of each row, from the array of scores. -/
theorem reduced_apply (hx3 : x3 = fun _ => 1#1) (n : Fin 16) (i : Fin 2048) :
    val_main_v51 (F := Ideal) x0 x1 x2 x3 x5 x6 x7 x8 (ix3 0 n i) = top fun j => score (args x0 x1 x2 x5 x6 x7 x8 x9 x10 x11) i n j * (scale : EReal) :=
  (reduceMax_apply _ _ n i).trans ((fold_eq_top _ word_bot _).trans
    (congrArg top (funext fun j => masked_apply x0 x1 x2 x3 x5 x6 x7 x8 x9 x10 x11 hx3 n i j)))

/-- The largest score of each row. -/
theorem top_apply (hx3 : x3 = fun _ => 1#1) (n : Fin 16) (i : Fin 2048) :
    val_main_v53 (F := Ideal) x0 x1 x2 x3 x5 x6 x7 x8 (ix3 0 n i) = top fun j => score (args x0 x1 x2 x5 x6 x7 x8 x9 x10 x11) i n j * (scale : EReal) := by
  refine (val_main_v53_apply (F := Ideal) x0 x1 x2 x3 x5 x6 x7 x8 _).trans ?_
  rw [reduced_apply x0 x1 x2 x3 x5 x6 x7 x8 x9 x10 x11 hx3]
  have h : val_main_v52 (F := Ideal) (ix3 0 n i) = (⊥ : EReal) := word_bot
  rw [h]
  exact bot_sup_eq _

/-- The heads. -/
theorem heads_apply (hx3 : x3 = fun _ => 1#1) (n : Fin 16) (i : Fin 2048) (d : Fin 128) :
    val_main_v62 (F := Ideal) x0 x1 x2 x3 x5 x6 x7 x8 x9 x10 (ix4 0 n i d) = rattn scale (args x0 x1 x2 x5 x6 x7 x8 x9 x10 x11) i n d := by
  pointwise [val_main_v62, val_main_v61, val_main_v60, val_main_v59, val_main_v58, val_main_v57, val_main_v56, val_main_v55, val_main_v54, val_main_cst_3]
  simp only [masked_apply x0 x1 x2 x3 x5 x6 x7 x8 x9 x10 x11 hx3, top_apply x0 x1 x2 x3 x5 x6 x7 x8 x9 x10 x11 hx3, spread_values_apply x0 x1 x2 x5 x6 x7 x8 x9 x10 x11]
  rfl

/-- The result. -/
theorem result_apply (hx3 : x3 = fun _ => 1#1) (i o : Fin 2048) :
    val_main_v66 (F := Ideal) x0 x1 x2 x3 x5 x6 x7 x8 x9 x10 x11 (ix3 0 i o) = rout scale (args x0 x1 x2 x5 x6 x7 x8 x9 x10 x11) i o := by
  pointwise [val_main_v66, val_main_v65, val_main_v64, val_main_v63]
  exact Finset.sum_congr rfl fun m _ =>
    congrArg (· * x11 (ix2 o m)) (heads_apply x0 x1 x2 x3 x5 x6 x7 x8 x9 x10 x11 hx3 (qhead m) i (qlane m))

end Cert.ReferenceIdeal.RefValue
-- ==== Proof.KernelValue.lean ====
/- # What the kernel computes

The two kernels and the host's operations together: element `(i, o)` of the result as a function of the arguments. -/
module

public import proofs.«01_k».proof.Proof.HostValues
public import proofs.«01_k».proof.Proof.RefValue

@[expose] public section

set_option maxRecDepth 16384

noncomputable section

namespace Cert.KernelIdeal.Heads

open Cert.KernelIdeal Cert.KernelIdeal.Gen Cert.KernelIdeal.Run Cert.Model
open Idealize.ShloMosaic Idealize.ShloMosaic.TcCoe Idealize.SL.Sem
open Cert.ReferenceIdeal.RefValue (args)

theorem khead_kcol (g : Fin 4) (d : Fin 128) : khead (kcol g d) = g := by
  apply Fin.ext; simp only [khead, kcol]; omega

theorem klane_kcol (g : Fin 4) (d : Fin 128) : klane (kcol g d) = d := by
  apply Fin.ext; simp only [klane, kcol]; omega

section Arrays

variable (A : Args) (x : Vec Ideal S2048x2048 .f32) (cos sin : Vec Ideal S2048x128 .f32) (b : Vec Ideal S1x1024 .f32)

/-- The rotated keys, the arrays read as the arguments. -/
theorem keyAt_eq (wk : Vec Ideal S512x2048 .f32) (hx : ∀ i e, x (ix2 i e) = A.hid i e)
    (hc : ∀ i d, cos (ix2 i d) = A.cos i d) (hs : ∀ i d, sin (ix2 i d) = A.sin i d)
    (hw : ∀ o e, wk (ix2 o e) = A.wk o e) (hb : ∀ o, b (ix2 0 (lo o)) = A.bk o) (j : Fin 2048) (g : Fin 4) (d : Fin 128) :
    keyAt x wk b cos sin j (kcol g d) = kh A j g d := by
  simp only [keyAt, kh, khead_kcol, klane_kcol, hx, hc, hs, hw, hb]

/-- The values, the arrays read as the arguments. -/
theorem valueAt_eq (wv : Vec Ideal S512x2048 .f32) (hx : ∀ i e, x (ix2 i e) = A.hid i e)
    (hw : ∀ o e, wv (ix2 o e) = A.wv o e) (hb : ∀ o, b (ix2 0 (hi o)) = A.bv o) (j : Fin 2048) (g : Fin 4) (d : Fin 128) :
    valueAt x wv b j (kcol g d) = vh A j g d := by
  simp only [valueAt, vh, hx, hw, hb]

/-- The result, the arrays read as the arguments. -/
theorem resultAt_eq (wq wo : Vec Ideal S2048x2048 .bf16) (bq : Vec Ideal S1x2048 .f32) (k v : Vec Ideal S2048x512 .bf16)
    (hx : ∀ i e, x (ix2 i e) = A.hid i e) (hc : ∀ i d, cos (ix2 i d) = A.cos i d) (hs : ∀ i d, sin (ix2 i d) = A.sin i d)
    (hwq : ∀ o e, wq (ix2 o e) = A.wq o e) (hbq : ∀ o, bq (ix2 0 o) = A.bq o)
    (hk : ∀ j g d, k (ix2 j (kcol g d)) = kh A j g d) (hv : ∀ j g d, v (ix2 j (kcol g d)) = vh A j g d)
    (hwo : ∀ o m, wo (ix2 o m) = A.wo o m) (i o : Fin 2048) :
    resultAt x wq bq cos sin k v wo i o = kout kscale kbound A i o := by
  unfold resultAt kout kattn qh
  simp only [hx, hc, hs, hwq, hbq, hk, hv, hwo]

end Arrays

variable (m : (ℓ : Loc nD τ sig) → Buf (Elt Ideal) ℓ) (ρ : Dev nD → PrngReg) (c : Dev nD)

/-! ## What each kernel finds when it is entered -/

theorem hidden2 : V2 m ρ c main_v0
    = shapeCast S2048x2048 (m ((c : Thread nD τ).loc main_arg0)) shapeCasts_S1x2048x2048_S2048x2048 :=
  (W2_of m ρ c main_v0 (by decide)).trans (hidden_after _)

theorem cos2 : V2 m ρ c main_v1
    = shapeCast S2048x128 (m ((c : Thread nD τ).loc main_arg1)) shapeCasts_S1x2048x128_S2048x128 :=
  (W2_of m ρ c main_v1 (by decide)).trans (cos_after _)

theorem sin2 : V2 m ρ c main_v2
    = shapeCast S2048x128 (m ((c : Thread nD τ).loc main_arg2)) shapeCasts_S1x2048x128_S2048x128 :=
  (W2_of m ρ c main_v2 (by decide)).trans (sin_after _)

theorem bias2 : V2 m ρ c main_call0_v1
    = biasRow (m ((c : Thread nD τ).loc main_arg8)) (m ((c : Thread nD τ).loc main_arg10)) :=
  (bias_after _).trans (congrArg₂ biasRow (W1_args m ρ c main_arg8 (by decide)) (W1_args m ρ c main_arg10 (by decide)))

theorem hidden4 : V4 m ρ c main_v0 = V2 m ρ c main_v0 :=
  (W4_of m ρ c main_v0 (by decide)).trans (W3_of m ρ c main_v0 (by decide))

theorem cos4 : V4 m ρ c main_v1 = V2 m ρ c main_v1 :=
  (W4_of m ρ c main_v1 (by decide)).trans (W3_of m ρ c main_v1 (by decide))

theorem sin4 : V4 m ρ c main_v2 = V2 m ρ c main_v2 :=
  (W4_of m ρ c main_v2 (by decide)).trans (W3_of m ρ c main_v2 (by decide))

theorem queryBias4 : V4 m ρ c main_call0_v3
    = broadcastInDim S1x2048 ![1] bcast_S2048_S1x2048_1 (m ((c : Thread nD τ).loc main_arg6)) :=
  (queryBias_after _).trans (congrArg _ (W3_args m ρ c main_arg6 (by decide)))

theorem keys4 : V4 m ρ c main_call0_v2_0
    = fun y => keyAt (V2 m ρ c main_v0) (V2 m ρ c main_arg7) (V2 m ρ c main_call0_v1) (V2 m ρ c main_v1)
        (V2 m ρ c main_v2) (y 0) (y 1) :=
  (W4_of m ρ c main_call0_v2_0 (by decide)).trans ((W3_arr m ρ c 8).trans (keys (V2 m ρ) c))

theorem values4 : V4 m ρ c main_call0_v2_1
    = fun y => valueAt (V2 m ρ c main_v0) (V2 m ρ c main_arg9) (V2 m ρ c main_call0_v1) (y 0) (y 1) :=
  (W4_of m ρ c main_call0_v2_1 (by decide)).trans ((W3_arr m ρ c 9).trans (values (V2 m ρ) c))

theorem queryWeights4 : V4 m ρ c main_call0_v2_2 = fun y => V2 m ρ c main_arg5 y :=
  (W4_of m ρ c main_call0_v2_2 (by decide)).trans ((W3_arr m ρ c 10).trans (queryWeights (V2 m ρ) c))

theorem outWeights4 : V4 m ρ c main_call0_v2_3 = fun y => V2 m ρ c main_arg11 y :=
  (W4_of m ρ c main_call0_v2_3 (by decide)).trans ((W3_arr m ρ c 11).trans (outWeights (V2 m ρ) c))

/-- The arguments as launched. -/
def argsOf : Args :=
  args (m ((c : Thread nD τ).loc main_arg0)) (m ((c : Thread nD τ).loc main_arg1))
    (m ((c : Thread nD τ).loc main_arg2)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

theorem hidden2_apply (i e : Fin 2048) : V2 m ρ c main_v0 (ix2 i e) = (argsOf m c).hid i e :=
  (congrFun (hidden2 m ρ c) _).trans (hidden_apply _ i e)

theorem cos2_apply (i : Fin 2048) (d : Fin 128) : V2 m ρ c main_v1 (ix2 i d) = (argsOf m c).cos i d :=
  (congrFun (cos2 m ρ c) _).trans (table_apply _ i d)

theorem sin2_apply (i : Fin 2048) (d : Fin 128) : V2 m ρ c main_v2 (ix2 i d) = (argsOf m c).sin i d :=
  (congrFun (sin2 m ρ c) _).trans (table_apply _ i d)

theorem keyBias2_apply (o : Fin 512) : V2 m ρ c main_call0_v1 (ix2 0 (lo o)) = (argsOf m c).bk o :=
  (congrFun (bias2 m ρ c) _).trans (biasRow_lo _ _ o)

theorem valueBias2_apply (o : Fin 512) : V2 m ρ c main_call0_v1 (ix2 0 (hi o)) = (argsOf m c).bv o :=
  (congrFun (bias2 m ρ c) _).trans (biasRow_hi _ _ o)

theorem keys4_apply (j : Fin 2048) (g : Fin 4) (d : Fin 128) :
    V4 m ρ c main_call0_v2_0 (ix2 j (kcol g d)) = kh (argsOf m c) j g d :=
  (congrFun (keys4 m ρ c) _).trans (keyAt_eq (argsOf m c) _ _ _ _ _ (hidden2_apply m ρ c) (cos2_apply m ρ c)
    (sin2_apply m ρ c) (fun o e => congrFun (W2_args m ρ c main_arg7 (by decide)) (ix2 o e)) (keyBias2_apply m ρ c) j g d)

theorem values4_apply (j : Fin 2048) (g : Fin 4) (d : Fin 128) :
    V4 m ρ c main_call0_v2_1 (ix2 j (kcol g d)) = vh (argsOf m c) j g d :=
  (congrFun (values4 m ρ c) _).trans (valueAt_eq (argsOf m c) _ _ _ (hidden2_apply m ρ c)
    (fun o e => congrFun (W2_args m ρ c main_arg9 (by decide)) (ix2 o e)) (valueBias2_apply m ρ c) j g d)

/-- Element `(i, o)` of the kernel's result. -/
theorem kernel_apply (i o : Fin 2048) :
    W6 m ρ c (Proc.devRef .tc main_v4) (ix3 0 i o) = kout kscale kbound (argsOf m c) i o := by
  refine (congrFun (result_after _) _).trans ((result_apply _ i o).trans ?_)
  refine (congrFun ((W5_arr m ρ c 8).trans (result (V4 m ρ) c)) (ix2 i o)).trans ?_
  exact resultAt_eq (argsOf m c) _ _ _ _ _ _ _ _
    (fun i e => (congrFun (hidden4 m ρ c) _).trans (hidden2_apply m ρ c i e))
    (fun i d => (congrFun (cos4 m ρ c) _).trans (cos2_apply m ρ c i d))
    (fun i d => (congrFun (sin4 m ρ c) _).trans (sin2_apply m ρ c i d))
    (fun o e => (congrFun (queryWeights4 m ρ c) _).trans (congrFun (W2_args m ρ c main_arg5 (by decide)) (ix2 o e)))
    (fun o => (congrFun (queryBias4 m ρ c) _).trans (queryBias_apply _ o)) (keys4_apply m ρ c) (values4_apply m ρ c)
    (fun o e => (congrFun (outWeights4 m ρ c) _).trans (congrFun (W2_args m ρ c main_arg11 (by decide)) (ix2 o e))) i o

end Cert.KernelIdeal.Heads
-- ==== Proof.Condition.lean ====
/- # What the precondition says, row by row -/
module

public import proofs.«01_k».proof.Proof.RefValue
public import proofs.«01_k».proof.Proof.Gen.Pre_full_mask_and_scores_below_clamp

@[expose] public section

set_option maxRecDepth 16384

noncomputable section

namespace Cert.ReferenceIdeal.RefValue

open Cert.ReferenceIdeal Cert.ReferenceIdeal.Gen Cert.ReferenceIdeal.Read Cert.Model
open Idealize.ShloMosaic Idealize.SL.Sem

variable (x0 : FVec Ideal S1x2048x2048 .f32) (x1 x2 : FVec Ideal S1x2048x128 .f32) (x3 : IVec S1x4x2048x2048 1) (x4 : IVec S_ 32)
  (x5 : FVec Ideal S2048x2048 .f32) (x6 : FVec Ideal S2048 .f32) (x7 : FVec Ideal S512x2048 .f32) (x8 : FVec Ideal S512 .f32)
  (x9 : FVec Ideal S512x2048 .f32) (x10 : FVec Ideal S512 .f32) (x11 : FVec Ideal S2048x2048 .f32)

theorem lt_of_cmp (x y : EReal) (h : Ideal.cmp .ogt x y = 1#1) : y < x := by
  by_contra hp
  simp [Ideal.cmp, hp] at h

theorem le_of_cmp (x y : EReal) (h : Ideal.cmp .ole x y = 1#1) : x ≤ y := by
  by_contra hp
  simp [Ideal.cmp, hp] at h

theorem above_apply (T : FVec Ideal S1x16x2048 .f32)
    (h : cmpf .ogt T (fun _ => FloatOps.ofBits .f32 0xFF800000#32) = fun _ => 1#1) (n : Fin 16) (i : Fin 2048) :
    Ideal.ofBits .f32 0xFF800000#32 < T (ix3 0 n i) := by
  have h2 := congrFun h (ix3 0 n i)
  exact lt_of_cmp _ _ h2

theorem below_apply (T : FVec Ideal S1x16x2048 .f32)
    (h : cmpf .ole (mulf T (fun _ => FloatOps.ofBits .f32 0x3DB504F3#32))
      (fun _ => FloatOps.mulf (FloatOps.ofBits .f32 0x42F00000#32) (Ideal.log (FloatOps.ofBits (F := Ideal) .f32 0x40000000#32)))
      = fun _ => 1#1) (n : Fin 16) (i : Fin 2048) :
    T (ix3 0 n i) * Ideal.ofBits .f32 0x3DB504F3#32 ≤ Ideal.ofBits .f32 0x42F00000#32 * Ideal.log (Ideal.ofBits .f32 0x40000000#32) := by
  have h2 := congrFun h (ix3 0 n i)
  exact le_of_cmp _ _ h2

/-- The largest of each row of the reference's unscaled scores. -/
def tops : FVec Ideal S1x16x2048 .f32 :=
  Host.reduce FloatOps.maximumf (val_main_v47 (F := Ideal) x0 x1 x2 x5 x6 x7 x8) (constant S_ .f32 0xFF800000#32)
    reducesTo_S1x16x2048x2048_S1x16x2048_d3 h_S_

theorem tops_apply (n : Fin 16) (i : Fin 2048) :
    tops x0 x1 x2 x5 x6 x7 x8 (ix3 0 n i) = top (score (args x0 x1 x2 x5 x6 x7 x8 x9 x10 x11) i n) :=
  (reduceMax_apply _ _ n i).trans ((fold_eq_top _ word_bot _).trans
    (congrArg top (funext fun j => score_apply x0 x1 x2 x5 x6 x7 x8 x9 x10 x11 n i j)))

/-- The precondition's three results, over the reference's own scores. -/
theorem condition_eq :
    Cert.Pre_full_mask_and_scores_below_clamp.fn (F := Ideal) x0 x1 x2 x3 x4 x5 x6 x7 x8 x9 x10 x11
      = (x3,
        cmpf .ogt (tops x0 x1 x2 x5 x6 x7 x8) (fun _ => FloatOps.ofBits .f32 0xFF800000#32),
        cmpf .ole (mulf (tops x0 x1 x2 x5 x6 x7 x8) (fun _ => FloatOps.ofBits .f32 0x3DB504F3#32))
          (fun _ => FloatOps.mulf (FloatOps.ofBits .f32 0x42F00000#32) (Ideal.log (FloatOps.ofBits (F := Ideal) .f32 0x40000000#32)))) :=
  rfl

/-- Every row of scores has a largest one above `⊥`. -/
theorem top_above
    (h : (Cert.Pre_full_mask_and_scores_below_clamp.fn (F := Ideal) x0 x1 x2 x3 x4 x5 x6 x7 x8 x9 x10 x11).2.1 = fun _ => 1#1)
    (i : Fin 2048) (n : Fin 16) : ⊥ < top (score (args x0 x1 x2 x5 x6 x7 x8 x9 x10 x11) i n) := by
  have h1 := (congrArg (fun r => r.2.1) (condition_eq x0 x1 x2 x3 x4 x5 x6 x7 x8 x9 x10 x11)).symm.trans h
  rw [← tops_apply, ← word_bot]
  exact above_apply _ h1 n i

/-- Every row's largest score, scaled, is at most `120 * log 2`. -/
theorem top_below
    (h : (Cert.Pre_full_mask_and_scores_below_clamp.fn (F := Ideal) x0 x1 x2 x3 x4 x5 x6 x7 x8 x9 x10 x11).2.2 = fun _ => 1#1)
    (i : Fin 2048) (n : Fin 16) :
    top (score (args x0 x1 x2 x5 x6 x7 x8 x9 x10 x11) i n) * (scale : EReal) ≤ ((120 * Real.log 2 : ℝ) : EReal) := by
  have h1 := (congrArg (fun r => r.2.2) (condition_eq x0 x1 x2 x3 x4 x5 x6 x7 x8 x9 x10 x11)).symm.trans h
  have h3 : Ideal.log ((2 : ℝ) : EReal) = (Real.log 2 : EReal) := if_neg (by norm_num)
  rw [← tops_apply, ← word_scale, EReal.coe_mul, ← word_bound, ← h3, ← word_two]
  exact below_apply _ h1 n i

end Cert.ReferenceIdeal.RefValue
-- ==== Proof.Equation.lean ====
/- # Why the two formulas agree

The kernel multiplies the queries by `s * (log 2)⁻¹`, takes powers of two of the scores cut at a bound, sums, and divides
once by the sum of the weights; the reference scales the scores by `s`, subtracts each row's largest, takes exponentials
and divides each weight. Where every row of scaled scores has a largest one, a real number at most `b * log 2`, they agree:
the cut cuts nothing, a power of two of `x / log 2` is the exponential of `x`, and the largest score cancels. -/
module

public import proofs.«01_k».proof.Proof.Model

@[expose] public section

noncomputable section

namespace Cert.Model

open Idealize.ShloMosaic

/-- A positive real factor moves out of a sum. -/
theorem sum_mul_real {ι : Type} [Fintype ι] (f : ι → EReal) {a : ℝ} (ha : 0 < a) :
    ∑ i, f i * (a : EReal) = (∑ i, f i) * (a : EReal) := by
  classical
  have h0 : (0 : EReal) ≤ a := by exact_mod_cast ha.le
  refine Finset.induction_on (Finset.univ : Finset ι) (by simp) fun i s hi ih => ?_
  rw [Finset.sum_insert hi, Finset.sum_insert hi, ih, EReal.right_distrib_of_nonneg_of_ne_top h0 (EReal.coe_ne_top a)]

/-- A nonnegative real factor moves into a sum. -/
theorem sum_mul_real' {ι : Type} [Fintype ι] (f : ι → EReal) {a : ℝ} (ha : 0 ≤ a) :
    (∑ i, f i) * (a : EReal) = ∑ i, f i * (a : EReal) := by
  classical
  have h0 : (0 : EReal) ≤ a := by exact_mod_cast ha
  refine Finset.induction_on (Finset.univ : Finset ι) (by simp) fun i s hi ih => ?_
  rw [Finset.sum_insert hi, Finset.sum_insert hi, ← ih, EReal.right_distrib_of_nonneg_of_ne_top h0 (EReal.coe_ne_top a)]

/-- The kernel's scaled score is a multiple of the plain one. -/
theorem sum_scaled (q k : Fin 128 → EReal) {a : ℝ} (ha : 0 < a) :
    ∑ d, q d * (a : EReal) * k d = (∑ d, q d * k d) * (a : EReal) := by
  rw [← sum_mul_real _ ha]
  exact Finset.sum_congr rfl fun d _ => by rw [mul_right_comm]

/-- The largest of a row is an upper bound. -/
theorem le_top (f : Fin 2048 → EReal) (j : Fin 2048) : f j ≤ top f :=
  (Finset.le_fold_max _).2 (Or.inr ⟨j, Finset.mem_univ _, le_rfl⟩)

/-- The largest of a row that has one above `⊥` is attained. -/
theorem exists_top (f : Fin 2048 → EReal) : ∃ j, f j = top f := by
  by_cases h : top f = ⊥
  · exact ⟨0, le_antisymm (le_top f 0) (h ▸ bot_le)⟩
  · rcases (Finset.le_fold_max (top f)).1 (le_refl (Finset.univ.fold max ⊥ f)) with h' | ⟨j, _, hj⟩
    · exact absurd (le_bot_iff.1 h') h
    · exact ⟨j, le_antisymm (le_top f j) hj⟩

/-- Scaling a row by a positive real scales its largest. -/
theorem top_mul (f : Fin 2048 → EReal) {a : ℝ} (ha : 0 < a) : top (fun j => f j * (a : EReal)) = top f * (a : EReal) := by
  have h0 : (0 : EReal) ≤ a := by exact_mod_cast ha.le
  refine le_antisymm ?_ ?_
  · obtain ⟨j, hj⟩ := exists_top fun j => f j * (a : EReal)
    rw [← hj]
    exact mul_le_mul_of_nonneg_right (le_top f j) h0
  · obtain ⟨j, hj⟩ := exists_top f
    rw [← hj]
    exact le_top (fun j => f j * (a : EReal)) j

/-- A power of two of a number over `log 2` is its exponential. -/
theorem exp2_div_log (x : EReal) : Ideal.exp2 (x * (((Real.log 2)⁻¹ : ℝ) : EReal)) = Ideal.exp x := by
  have hl : 0 < (Real.log 2)⁻¹ := inv_pos.2 (Real.log_pos one_lt_two)
  induction x using EReal.rec with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = (Real.exp r : EReal)
    congr 1
    show (2 : ℝ) ^ (r * (Real.log 2)⁻¹) = Real.exp r
    rw [Real.rpow_def_of_pos two_pos, mul_comm r, ← mul_assoc, mul_inv_cancel₀ (Real.log_pos one_lt_two).ne', one_mul]

/-- A number at most a real, taken to the exponential, is a nonnegative real; less a real, it is that over the exponential
of the real. -/
theorem exp_real (x : EReal) (M : ℝ) (h : x ≤ M) :
    ∃ p : ℝ, 0 ≤ p ∧ Ideal.exp x = (p : EReal) ∧ Ideal.exp (x - (M : EReal)) = ((p * (Real.exp M)⁻¹ : ℝ) : EReal) := by
  induction x using EReal.rec with
  | bot => exact ⟨0, le_rfl, rfl, by rw [EReal.bot_sub, zero_mul]; rfl⟩
  | top => exact absurd h (by simp)
  | coe r =>
    refine ⟨Real.exp r, (Real.exp_pos r).le, rfl, ?_⟩
    rw [← EReal.coe_sub]
    show ((Real.exp (r - M) : ℝ) : EReal) = _
    rw [Real.exp_sub, div_eq_mul_inv]

/-- Division of nonnegative weights by their positive sum, before or after the weighted sum. -/
theorem softmax_eq (s v : Fin 2048 → EReal) (M : ℝ) (hM : top s = (M : EReal)) :
    rhead_out s v = khead_out (fun j => Ideal.exp (s j)) v := by
  have hle : ∀ j, s j ≤ (M : EReal) := fun j => hM ▸ le_top s j
  choose p hp he hsub using fun j => exp_real (s j) M (hle j)
  obtain ⟨j₀, hj₀⟩ := exists_top s
  have hp0 : 0 < p j₀ := by
    have : Ideal.exp (s j₀) = (Real.exp M : EReal) := by rw [hj₀, hM]; rfl
    rw [he j₀] at this
    rw [EReal.coe_eq_coe_iff.1 this]
    exact Real.exp_pos M
  have hl : 0 < ∑ j, p j := Finset.sum_pos' (fun j _ => hp j) ⟨j₀, Finset.mem_univ _, hp0⟩
  have hE : 0 < (Real.exp M)⁻¹ := inv_pos.2 (Real.exp_pos M)
  have hsum : ∀ f : Fin 2048 → ℝ, ∑ j, ((f j : ℝ) : EReal) = ((∑ j, f j : ℝ) : EReal) := fun f =>
    (map_sum (⟨⟨Real.toEReal, EReal.coe_zero⟩, EReal.coe_add⟩ : ℝ →+ EReal) f Finset.univ).symm
  have hdiv : ∀ (x : EReal) (l : ℝ), 0 < l → Ideal.div x (l : EReal) = x * ((l⁻¹ : ℝ) : EReal) := fun x l h => by
    rw [Ideal.div, if_neg (by exact_mod_cast h.ne'), EReal.coe_inv]
  unfold rhead_out khead_out
  simp only [hM, he, hsub]
  rw [hsum, hsum, hdiv _ _ hl, ← Finset.sum_mul, sum_mul_real' _ (inv_pos.2 hl).le]
  refine Finset.sum_congr rfl fun j _ => ?_
  rw [hdiv _ _ (mul_pos hl hE), ← EReal.coe_mul, mul_right_comm (p j : EReal), ← EReal.coe_mul]
  congr 2
  field_simp

/-- One row of one head: the kernel's and the reference's. -/
theorem head_eq {a b : ℝ} (ha : 0 < a) (q : Fin 128 → EReal) (k : Fin 2048 → Fin 128 → EReal) (v : Fin 2048 → EReal)
    (hbot : ⊥ < top fun j => ∑ d, q d * k j d)
    (htop : (top fun j => ∑ d, q d * k j d) * (a : EReal) ≤ ((b * Real.log 2 : ℝ) : EReal)) :
    khead_out (fun j => kweight ((a * (Real.log 2)⁻¹ : ℝ) : EReal) (b : EReal) q (k j)) v
      = rhead_out (fun j => (∑ d, q d * k j d) * (a : EReal)) v := by
  have hlog : 0 < Real.log 2 := Real.log_pos one_lt_two
  have hl : 0 < (Real.log 2)⁻¹ := inv_pos.2 hlog
  rw [← top_mul _ ha] at htop
  have hM : ∃ M : ℝ, (top fun j => (∑ d, q d * k j d) * (a : EReal)) = (M : EReal) := by
    have h1 : (top fun j => (∑ d, q d * k j d) * (a : EReal)) ≠ ⊤ := fun e => not_le.2 (EReal.coe_lt_top _) (e ▸ htop)
    have h2 : (top fun j => (∑ d, q d * k j d) * (a : EReal)) ≠ ⊥ := fun e => by
      rw [top_mul _ ha] at e
      generalize (top fun j => ∑ d, q d * k j d) = y at hbot e
      induction y using EReal.rec with
      | bot => exact lt_irrefl _ hbot
      | top => rw [EReal.top_mul_coe_of_pos ha] at e; exact absurd e (by simp)
      | coe r => rw [← EReal.coe_mul] at e; exact EReal.coe_ne_bot _ e
    exact ⟨_, (EReal.coe_toReal h1 h2).symm⟩
  obtain ⟨M, hM⟩ := hM
  rw [softmax_eq _ v M hM]
  congr 1
  funext j
  unfold kweight
  rw [sum_scaled q (k j) (mul_pos ha hl), EReal.coe_mul, ← mul_assoc, min_eq_left, exp2_div_log]
  have h1 : (∑ d, q d * k j d) * (a : EReal) ≤ ((b * Real.log 2 : ℝ) : EReal) :=
    (le_top (fun j => (∑ d, q d * k j d) * (a : EReal)) j).trans htop
  have h2 := mul_le_mul_of_nonneg_right h1 (show (0 : EReal) ≤ (((Real.log 2)⁻¹ : ℝ) : EReal) by exact_mod_cast hl.le)
  rwa [← EReal.coe_mul, mul_assoc b, mul_inv_cancel₀ hlog.ne', mul_one] at h2

/-- The two results agree where every row of scores has a largest one above `⊥` whose scaling is at most `b * log 2`. -/
theorem out_eq {a b : ℝ} (ha : 0 < a) (A : Args) (hbot : ∀ i n, ⊥ < top (score A i n))
    (htop : ∀ i n, top (score A i n) * (a : EReal) ≤ ((b * Real.log 2 : ℝ) : EReal)) (i o : Fin 2048) :
    kout ((a * (Real.log 2)⁻¹ : ℝ) : EReal) (b : EReal) A i o = rout (a : EReal) A i o :=
  Finset.sum_congr rfl fun m _ => congrArg (· * A.wo o m)
    (head_eq ha (qh A i (qhead m)) (fun j => kh A j (grp (qhead m))) _ (hbot i (qhead m)) (htop i (qhead m)))

end Cert.Model
-- ==== Proof.Value.lean ====
/- # The two programs compute the same result

The kernel's and the reference's runs side by side: under the precondition, every element of the one's result is the
other's. -/
module

public import proofs.«01_k».proof.Defs
public import proofs.«01_k».proof.Proof.KernelValue
public import proofs.«01_k».proof.Proof.Condition
public import proofs.«01_k».proof.Proof.Equation
public import Idealize.ShloMosaic.Lib.Claim

@[expose] public section

set_option maxRecDepth 16384

noncomputable section

namespace Cert.Proof

open Idealize.ShloMosaic Idealize.SL.Sem Cert.Model Cert.KernelIdeal.Heads
open Cert.ReferenceIdeal.Read (val_main_v66)
open Cert.ReferenceIdeal.RefValue (args)

/-- The reference's result at an element, under the precondition, as the kernel computes it. -/
theorem reference_apply (x0 x1 x2 x3 x4 x5 x6 x7 x8 x9 x10 x11)
    (h : (Cert.Pre_full_mask_and_scores_below_clamp.fn (F := Ideal) x0 x1 x2 x3 x4 x5 x6 x7 x8 x9 x10 x11).1 = (fun _ => 1#1)
      ∧ (Cert.Pre_full_mask_and_scores_below_clamp.fn (F := Ideal) x0 x1 x2 x3 x4 x5 x6 x7 x8 x9 x10 x11).2.1 = (fun _ => 1#1)
      ∧ (Cert.Pre_full_mask_and_scores_below_clamp.fn (F := Ideal) x0 x1 x2 x3 x4 x5 x6 x7 x8 x9 x10 x11).2.2 = (fun _ => 1#1))
    (i o : Fin 2048) :
    val_main_v66 (F := Ideal) x0 x1 x2 x3 x5 x6 x7 x8 x9 x10 x11 (ix3 0 i o)
      = kout kscale kbound (args x0 x1 x2 x5 x6 x7 x8 x9 x10 x11) i o := by
  have h3 : x3 = fun _ => 1#1 :=
    (congrArg (fun r => r.1) (Cert.ReferenceIdeal.RefValue.condition_eq x0 x1 x2 x3 x4 x5 x6 x7 x8 x9 x10 x11)).symm.trans h.1
  refine (Cert.ReferenceIdeal.RefValue.result_apply x0 x1 x2 x3 x5 x6 x7 x8 x9 x10 x11 h3 i o).trans ?_
  exact (Cert.Model.out_eq scale_pos (args x0 x1 x2 x5 x6 x7 x8 x9 x10 x11)
    (Cert.ReferenceIdeal.RefValue.top_above x0 x1 x2 x3 x4 x5 x6 x7 x8 x9 x10 x11 h.2.1)
    (Cert.ReferenceIdeal.RefValue.top_below x0 x1 x2 x3 x4 x5 x6 x7 x8 x9 x10 x11 h.2.2) i o).symm

/-- The two results are one array. -/
theorem results_agree (m : (ℓ : Loc Cert.KernelIdeal.nD Cert.KernelIdeal.τ Cert.KernelIdeal.sig) → Buf (Elt Ideal) ℓ)
    (g : Dev Cert.KernelIdeal.nD → PrngReg) (h : Cert.Pre_KernelIdeal_full_mask_and_scores_below_clamp m)
    (c : Dev Cert.KernelIdeal.nD) (x0 x1 x2 x3 x5 x6 x7 x8 x9 x10 x11)
    (h0 : x0 = m (c.tc.loc Cert.KernelIdeal.main_arg0)) (h1 : x1 = m (c.tc.loc Cert.KernelIdeal.main_arg1))
    (h2 : x2 = m (c.tc.loc Cert.KernelIdeal.main_arg2)) (h3 : x3 = m (c.tc.loc Cert.KernelIdeal.main_arg3))
    (h5 : x5 = m (c.tc.loc Cert.KernelIdeal.main_arg5)) (h6 : x6 = m (c.tc.loc Cert.KernelIdeal.main_arg6))
    (h7 : x7 = m (c.tc.loc Cert.KernelIdeal.main_arg7)) (h8 : x8 = m (c.tc.loc Cert.KernelIdeal.main_arg8))
    (h9 : x9 = m (c.tc.loc Cert.KernelIdeal.main_arg9)) (h10 : x10 = m (c.tc.loc Cert.KernelIdeal.main_arg10))
    (h11 : x11 = m (c.tc.loc Cert.KernelIdeal.main_arg11)) :
    val_main_v66 (F := Ideal) x0 x1 x2 x3 x5 x6 x7 x8 x9 x10 x11
      = Cert.KernelIdeal.Run.W6 m g c (Proc.devRef .tc Cert.KernelIdeal.main_v4) := by
  subst h0 h1 h2 h3 h5 h6 h7 h8 h9 h10 h11
  have key := fun i o => (reference_apply _ _ _ _ _ _ _ _ _ _ _ _ (h c) i o).trans (kernel_apply m g c i o).symm
  funext y
  have hy : ix3 (n0 := 1) (n1 := 2048) (n2 := 2048) 0 (y 1) (y 2) = y := by
    funext a
    fin_cases a
    · exact Subsingleton.elim (α := Fin 1) _ _
    · rfl
    · rfl
  exact (congrArg _ hy.symm).trans ((key (y 1) (y 2)).trans (congrArg _ hy))

theorem algebraic : Cert.algebraic_KernelIdeal_ReferenceIdeal_pre_full_mask_and_scores_below_clamp := by
  intro m g m' g' h hagree
  refine ⟨fun c => Cert.KernelIdeal.Run.W6 m g c (Proc.devRef .tc Cert.KernelIdeal.main_v4),
    θ_run_mono (Cert.KernelIdeal.Run.run m g) fun r hr c => hr.1 c,
    θ_run_mono (Cert.ReferenceIdeal.Value.run m' g') fun r hr c => ⟨(hr c).1.trans ?_, (hr c).2⟩⟩
  obtain ⟨h0, h1, h2, h3, h4, h5, h6, h7, h8, h9, h10, h11⟩ := hagree c
  exact (Cert.ReferenceIdeal.Read.val_main_v66_eq m' c).trans
    (results_agree m g h c _ _ _ _ _ _ _ _ _ _ _ h0 h1 h2 h3 h5 h6 h7 h8 h9 h10 h11)

end Cert.Proof
-- ==== Proof.lean ====
/- # The certificate

The two printed kernels and the reference run to the end and leave their arguments unchanged; the named constant is what
its rounded word stands for; and over the reals the kernel's result is the reference's. -/
module

public import proofs.«01_k».proof.Defs
public import proofs.«01_k».proof.Proof.KernelRun
public import proofs.«01_k».proof.Proof.IdealRun
public import proofs.«01_k».proof.Proof.RefRead
public import proofs.«01_k».proof.Proof.Gen.Kernel
public import proofs.«01_k».proof.Proof.Gen.KernelIdeal
public import proofs.«01_k».proof.Proof.Gen.ReferenceIdeal
public import proofs.«01_k».proof.Proof.Gen.Pre_full_mask_and_scores_below_clamp
public import proofs.«01_k».proof.Proof.Value
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference ends with its arguments as launched and has no counter at all. -/
theorem reference_frame : Cert.quiescent_ReferenceIdeal := fun m g _ =>
  θ_run_mono (Cert.ReferenceIdeal.Value.run m g) fun r h => ⟨fun c => (h c).2, sem_eq_zero_of_no_sems (by decide) r.2⟩

/-- The word in the printed kernel is the named constant rounded. -/
theorem constant_named : Cert.preserves_Kernel_KernelIdeal :=
  IdealRules.named_const.statement Cert.KernelIdeal.κ "scale_log2e" .f32 0x3E0293EE#32 (((11863283 / 134217728) * (Real.log 2)⁻¹ : ℝ) : EReal) rfl

theorem claim : Cert.Claim :=
  ⟨Cert.Kernel.Gen.facts, Cert.KernelIdeal.Gen.facts, Cert.ReferenceIdeal.Gen.facts, Cert.Pre_full_mask_and_scores_below_clamp.Gen.facts,
    fun m g _ => Cert.Kernel.Run.frame m g, fun m g _ => Cert.KernelIdeal.Run.frame m g, fun m g _ => Cert.KernelIdeal.Run.frame m g,
    reference_frame, fun m g _ => reference_frame m g trivial, constant_named, algebraic⟩

end Cert.Proof

end
